-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67_0) = v0 c
          ∧ r.2.mem ((c.tc : Thread Cert.ReferenceIdeal.nD Cert.ReferenceIdeal.τ).loc Cert.ReferenceIdeal.main_v67_1) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x256x1152 : Shape := ⟨3, ![8, 256, 1152]⟩
abbrev S6912x1152 : Shape := ⟨2, ![6912, 1152]⟩
abbrev S6912x36 : Shape := ⟨2, ![6912, 36]⟩
abbrev S_ : Shape := ⟨0, ![]⟩

class Facts : Prop where
  bitsLt_bf16_f32 : FTy.bits .bf16 < FTy.bits .f32
  bcast_S_S8x256x1152 : S_.BroadcastsInDim S8x256x1152 (![] : Fin 0 → Fin S8x256x1152.rank)
  reducesTo_S8x256x1152_S_d0_1_2 : S8x256x1152.ReducesTo [0, 1, 2] S_
  h_S_ : 0 < S_.numel

variable [Facts]

def fn {F : FTy → Type} [FloatOps F] (main_arg0 : FVec F S8x256x1152 .bf16) (main_arg1 : FVec F S6912x1152 .fp8e4m3) (main_arg2 : IVec S6912x36 8) : IVec S_ 1 :=
  let main_v0 : FVec F S8x256x1152 .f32 := (extf .f32 · bitsLt_bf16_f32) main_arg0
  let main_v1 : FVec F S8x256x1152 .f32 := Host.absf main_v0
  let main_cst : FVec F S_ .f32 := constant S_ .f32 0x7F7F0000#32
  let main_v2 : FVec F S8x256x1152 .f32 := broadcastInDim S8x256x1152 ![] bcast_S_S8x256x1152 main_cst
  let main_v3 : IVec S8x256x1152 1 := cmpf .ole main_v1 main_v2
  let main_c : IVec S_ 1 := constantI S_ 1 1#1
  let main_v4 : IVec S_ 1 := (fun x v => Host.reduce IntOp.andi x v reducesTo_S8x256x1152_S_d0_1_2 h_S_) main_v3 main_c
  main_v4
-- ==== Kernel.lean ====
abbrev S8x256x1152 : Shape := ⟨3, ![8, 256, 1152]⟩
abbrev S6912x1152 : Shape := ⟨2, ![6912, 1152]⟩
abbrev S6912x36 : Shape := ⟨2, ![6912, 36]⟩
abbrev S2048x1152 : Shape := ⟨2, ![2048, 1152]⟩
abbrev S2048x6912 : Shape := ⟨2, ![2048, 6912]⟩
abbrev S8x256 : Shape := ⟨2, ![8, 256]⟩
abbrev S768x1152 : Shape := ⟨2, ![768, 1152]⟩
abbrev S768x36 : Shape := ⟨2, ![768, 36]⟩
abbrev S2048x768 : Shape := ⟨2, ![2048, 768]⟩
abbrev S2048x128 : Shape := ⟨2, ![2048, 128]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S768x92 : Shape := ⟨2, ![768, 92]⟩
abbrev S768x128 : Shape := ⟨2, ![768, 128]⟩
abbrev S768x128x1 : Shape := ⟨3, ![768, 128, 1]⟩
abbrev S1024x1152 : Shape := ⟨2, ![1024, 1152]⟩
abbrev S256x1152 : Shape := ⟨2, ![256, 1152]⟩
abbrev S1024x256 : Shape := ⟨2, ![1024, 256]⟩
abbrev S1024x128 : Shape := ⟨2, ![1024, 128]⟩

abbrev nBuf : Space → Nat
  | .hbm => 7
  | .vmem => 12
  | .smem => 0
  | _ => 0

abbrev bufTy : (tb : Table) → Fin (tcTables nBuf tb) → BufTy
  | .hbm, ⟨0, _⟩ => ⟨S8x256x1152, .bf16⟩
  | .hbm, ⟨1, _⟩ => ⟨S6912x1152, .fp8e4m3⟩
  | .hbm, ⟨2, _⟩ => ⟨S6912x36, .i8⟩
  | .hbm, ⟨3, _⟩ => ⟨S2048x1152, .bf16⟩
  | .hbm, ⟨4, _⟩ => ⟨S2048x6912, .bf16⟩
  | .hbm, ⟨5, _⟩ => ⟨S2048x1152, .fp8e4m3⟩
  | .hbm, ⟨6, _⟩ => ⟨S8x256, .f32⟩
  | .local _ .vmem, ⟨0, _⟩ => ⟨S2048x1152, .bf16⟩
  | .local _ .vmem, ⟨1, _⟩ => ⟨S768x1152, .fp8e4m3⟩
  | .local _ .vmem, ⟨2, _⟩ => ⟨S768x1152, .fp8e4m3⟩
  | .local _ .vmem, ⟨3, _⟩ => ⟨S768x36, .i8⟩
  | .local _ .vmem, ⟨4, _⟩ => ⟨S768x36, .i8⟩
  | .local _ .vmem, ⟨5, _⟩ => ⟨S2048x768, .bf16⟩
  | .local _ .vmem, ⟨6, _⟩ => ⟨S2048x768, .bf16⟩
  | .local _ .vmem, ⟨7, _⟩ => ⟨S2048x1152, .fp8e4m3⟩
  | .local _ .vmem, ⟨8, _⟩ => ⟨S8x256, .f32⟩
  | .local _ .vmem, ⟨9, _⟩ => ⟨S2048x1152, .bf16⟩
  | .local _ .vmem, ⟨10, _⟩ => ⟨S2048x128, .f32⟩
  | .local _ .vmem, ⟨11, _⟩ => ⟨S768x1152, .bf16⟩
  | _, _ => ⟨S8x256x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S768x1152 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x36 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1152 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S8x256x1152 : Shape := ⟨3, ![8, 256, 1152]⟩
abbrev S6912x1152 : Shape := ⟨2, ![6912, 1152]⟩
abbrev S6912x36 : Shape := ⟨2, ![6912, 36]⟩
abbrev S_ : Shape := ⟨0, ![]⟩
abbrev S8x256 : Shape := ⟨2, ![8, 256]⟩
abbrev S254 : Shape := ⟨1, ![254]⟩
abbrev S8x256x1 : Shape := ⟨3, ![8, 256, 1]⟩
abbrev S1x1x254 : Shape := ⟨3, ![1, 1, 254]⟩
abbrev S8x256x254 : Shape := ⟨3, ![8, 256, 254]⟩
abbrev S6912x36x1 : Shape := ⟨3, ![6912, 36, 1]⟩
abbrev S6912x36x32 : Shape := ⟨3, ![6912, 36, 32]⟩
abbrev S2048x1152 : Shape := ⟨2, ![2048, 1152]⟩
abbrev S2048x1 : Shape := ⟨2, ![2048, 1]⟩
abbrev S2048x6912 : Shape := ⟨2, ![2048, 6912]⟩

abbrev nBuf : Space → Nat
  | .hbm => 118
  | .vmem => 7
  | .smem => 0
  | _ => 0

abbrev bufTy : (tb : Table) → Fin (tcTables nBuf tb) → BufTy
  | .hbm, ⟨0, _⟩ => ⟨S8x256x1152, .bf16⟩
  | .hbm, ⟨1, _⟩ => ⟨S6912x1152, .fp8e4m3⟩
  | .hbm, ⟨2, _⟩ => ⟨S6912x36, .i8⟩
  | .hbm, ⟨3, _⟩ => ⟨S8x256x1152, .f32⟩
  | .hbm, ⟨4, _⟩ => ⟨S8x256x1152, .f32⟩
  | .hbm, ⟨5, _⟩ => ⟨S_, .f32⟩
  | .hbm, ⟨6, _⟩ => ⟨S8x256, .f32⟩
  | .hbm, ⟨7, _⟩ => ⟨S_, .f32⟩
  | .hbm, ⟨8, _⟩ => ⟨S8x256, .f32⟩
  | .hbm, ⟨9, _⟩ => ⟨S8x256, .f32⟩
  | .hbm, ⟨10, _⟩ => ⟨S254, .i32⟩
  | .hbm, ⟨11, _⟩ => ⟨S_, .i32⟩
  | .hbm, ⟨12, _⟩ => ⟨S254, .i32⟩
  | .hbm, ⟨13, _⟩ => ⟨S254, .i32⟩
  | .hbm, ⟨14, _⟩ => ⟨S_, .f32⟩
  | .hbm, ⟨15, _⟩ => ⟨S254, .f32⟩
  | .hbm, ⟨16, _⟩ => ⟨S254, .f32⟩
  | .hbm, ⟨17, _⟩ => ⟨S254, .f32⟩
  | .hbm, ⟨18, _⟩ => ⟨S_, .i32⟩
  | .hbm, ⟨19, _⟩ => ⟨S254, .i32⟩
  | .hbm, ⟨20, _⟩ => ⟨S254, .i1⟩
  | .hbm, ⟨21, _⟩ => ⟨S_, .i32⟩
  | .hbm, ⟨22, _⟩ => ⟨S254, .i32⟩
  | .hbm, ⟨23, _⟩ => ⟨S254, .i1⟩
  | .hbm, ⟨24, _⟩ => ⟨S_, .f32⟩
  | .hbm, ⟨25, _⟩ => ⟨S_, .f32⟩
  | .hbm, ⟨26, _⟩ => ⟨S254, .f32⟩
  | .hbm, ⟨27, _⟩ => ⟨S254, .f32⟩
  | .hbm, ⟨28, _⟩ => ⟨S_, .f32⟩
  | .hbm, ⟨29, _⟩ => ⟨S_, .f32⟩
  | .hbm, ⟨30, _⟩ => ⟨S254, .f32⟩
  | .hbm, ⟨31, _⟩ => ⟨S254, .f32⟩
  | .hbm, ⟨32, _⟩ => ⟨S8x256x1, .f32⟩
  | .hbm, ⟨33, _⟩ => ⟨S1x1x254, .f32⟩
  | .hbm, ⟨34, _⟩ => ⟨S8x256x254, .f32⟩
  | .hbm, ⟨35, _⟩ => ⟨S8x256x254, .f32⟩
  | .hbm, ⟨36, _⟩ => ⟨S8x256x254, .i1⟩
  | .hbm, ⟨37, _⟩ => ⟨S8x256x254, .i32⟩
  | .hbm, ⟨38, _⟩ => ⟨S_, .i32⟩
  | .hbm, ⟨39, _⟩ => ⟨S8x256, .i32⟩
  | .hbm, ⟨40, _⟩ => ⟨S_, .i32⟩
  | .hbm, ⟨41, _⟩ => ⟨S8x256, .i32⟩
  | .hbm, ⟨42, _⟩ => ⟨S8x256, .i1⟩
  | .hbm, ⟨43, _⟩ => ⟨S_, .i32⟩
  | .hbm, ⟨44, _⟩ => ⟨S8x256, .i32⟩
  | .hbm, ⟨45, _⟩ => ⟨S8x256, .i32⟩
  | .hbm, ⟨46, _⟩ => ⟨S_, .i32⟩
  | .hbm, ⟨47, _⟩ => ⟨S_, .i32⟩
  | .hbm, ⟨48, _⟩ => ⟨S8x256, .i32⟩
  | .hbm, ⟨49, _⟩ => ⟨S8x256, .i32⟩
  | .hbm, ⟨50, _⟩ => ⟨S_, .f32⟩
  | .hbm, ⟨51, _⟩ => ⟨S8x256, .f32⟩
  | .hbm, ⟨52, _⟩ => ⟨S8x256, .f32⟩
  | .hbm, ⟨53, _⟩ => ⟨S8x256, .f32⟩
  | .hbm, ⟨54, _⟩ => ⟨S_, .i32⟩
  | .hbm, ⟨55, _⟩ => ⟨S8x256, .i32⟩
  | .hbm, ⟨56, _⟩ => ⟨S8x256, .i1⟩
  | .hbm, ⟨57, _⟩ => ⟨S_, .i32⟩
  | .hbm, ⟨58, _⟩ => ⟨S8x256, .i32⟩
  | .hbm, ⟨59, _⟩ => ⟨S8x256, .i1⟩
  | .hbm, ⟨60, _⟩ => ⟨S_, .f32⟩
  | .hbm, ⟨61, _⟩ => ⟨S_, .f32⟩
  | .hbm, ⟨62, _⟩ => ⟨S8x256, .f32⟩
  | .hbm, ⟨63, _⟩ => ⟨S8x256, .f32⟩
  | .hbm, ⟨64, _⟩ => ⟨S_, .f32⟩
  | .hbm, ⟨65, _⟩ => ⟨S_, .f32⟩
  | .hbm, ⟨66, _⟩ => ⟨S8x256, .f32⟩
  | .hbm, ⟨67, _⟩ => ⟨S8x256, .f32⟩
  | .hbm, ⟨68, _⟩ => ⟨S8x256, .i32⟩
  | .hbm, ⟨69, _⟩ => ⟨S_, .f32⟩
  | .hbm, ⟨70, _⟩ => ⟨S8x256, .f32⟩
  | .hbm, ⟨71, _⟩ => ⟨S8x256, .f32⟩
  | .hbm, ⟨72, _⟩ => ⟨S8x256, .f32⟩
  | .hbm, ⟨73, _⟩ => ⟨S_, .i32⟩
  | .hbm, ⟨74, _⟩ => ⟨S8x256, .i32⟩
  | .hbm, ⟨75, _⟩ => ⟨S8x256, .i1⟩
  | .hbm, ⟨76, _⟩ => ⟨S_, .i32⟩
  | .hbm, ⟨77, _⟩ => ⟨S8x256, .i32⟩
  | .hbm, ⟨78, _⟩ => ⟨S8x256, .i1⟩
  | .hbm, ⟨79, _⟩ => ⟨S_, .f32⟩
  | .hbm, ⟨80, _⟩ => ⟨S_, .f32⟩
  | .hbm, ⟨81, _⟩ => ⟨S8x256, .f32⟩
  | .hbm, ⟨82, _⟩ => ⟨S8x256, .f32⟩
  | .hbm, ⟨83, _⟩ => ⟨S_, .f32⟩
  | .hbm, ⟨84, _⟩ => ⟨S_, .f32⟩
  | .hbm, ⟨85, _⟩ => ⟨S8x256, .f32⟩
  | .hbm, ⟨86, _⟩ => ⟨S8x256, .f32⟩
  | .hbm, ⟨87, _⟩ => ⟨S6912x36, .i32⟩
  | .hbm, ⟨88, _⟩ => ⟨S_, .i32⟩
  | .hbm, ⟨89, _⟩ => ⟨S6912x36, .i32⟩
  | .hbm, ⟨90, _⟩ => ⟨S6912x36, .i32⟩
  | .hbm, ⟨91, _⟩ => ⟨S_, .f32⟩
  | .hbm, ⟨92, _⟩ => ⟨S6912x36, .f32⟩
  | .hbm, ⟨93, _⟩ => ⟨S6912x36, .f32⟩
  | .hbm, ⟨94, _⟩ => ⟨S6912x36, .f32⟩
  | .hbm, ⟨95, _⟩ => ⟨S_, .i32⟩
  | .hbm, ⟨96, _⟩ => ⟨S6912x36, .i32⟩
  | .hbm, ⟨97, _⟩ => ⟨S6912x36, .i1⟩
  | .hbm, ⟨98, _⟩ => ⟨S_, .i32⟩
  | .hbm, ⟨99, _⟩ => ⟨S6912x36, .i32⟩
  | .hbm, ⟨100, _⟩ => ⟨S6912x36, .i1⟩
  | .hbm, ⟨101, _⟩ => ⟨S_, .f32⟩
  | .hbm, ⟨102, _⟩ => ⟨S_, .f32⟩
  | .hbm, ⟨103, _⟩ => ⟨S6912x36, .f32⟩
  | .hbm, ⟨104, _⟩ => ⟨S6912x36, .f32⟩
  | .hbm, ⟨105, _⟩ => ⟨S_, .f32⟩
  | .hbm, ⟨106, _⟩ => ⟨S_, .f32⟩
  | .hbm, ⟨107, _⟩ => ⟨S6912x36, .f32⟩
  | .hbm, ⟨108, _⟩ => ⟨S6912x36, .f32⟩
  | .hbm, ⟨109, _⟩ => ⟨S6912x36, .bf16⟩
  | .hbm, ⟨110, _⟩ => ⟨S6912x36x1, .bf16⟩
  | .hbm, ⟨111, _⟩ => ⟨S6912x36x32, .bf16⟩
  | .hbm, ⟨112, _⟩ => ⟨S6912x1152, .bf16⟩
  | .hbm, ⟨113, _⟩ => ⟨S2048x1152, .bf16⟩
  | .hbm, ⟨114, _⟩ => ⟨S2048x1, .f32⟩
  | .hbm, ⟨115, _⟩ => ⟨S2048x1, .f32⟩
  | .hbm, ⟨116, _⟩ => ⟨S2048x6912, .bf16⟩
  | .hbm, ⟨117, _⟩ => ⟨S2048x1152, .fp8e4m3⟩
  | .local _ .vmem, ⟨0, _⟩ => ⟨S2048x1152, .bf16⟩
  | .local _ .vmem, ⟨1, _⟩ => ⟨S2048x1, .f32⟩
  | .local _ .vmem, ⟨2, _⟩ => ⟨S2048x1, .f32⟩
  | .local _ .vmem, ⟨3, _⟩ => ⟨S6912x1152, .fp8e4m3⟩
  | .local _ .vmem, ⟨4, _⟩ => ⟨S6912x1152, .bf16⟩
  | .local _ .vmem, ⟨5, _⟩ => ⟨S2048x6912, .bf16⟩
  | .local _ .vmem, ⟨6, _⟩ => ⟨S2048x1152, .fp8e4m3⟩
  | _, _ => ⟨S8x256x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_cst_5 : Ref sig .tc := ⟨.hbm, 28, rfl⟩
abbrev main_call1_v0 : Ref sig .tc := ⟨.hbm, 29, rfl⟩
abbrev main_call1_v1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_c_7 : Ref sig .tc := ⟨.hbm, 40, rfl⟩
abbrev main_v24 : Ref sig .tc := ⟨.hbm, 41, rfl⟩
abbrev main_v25 : Ref sig .tc := ⟨.hbm, 42, rfl⟩
abbrev main_c_8 : Ref sig .tc := ⟨.hbm, 43, rfl⟩
abbrev main_v26 : Ref sig .tc := ⟨.hbm, 44, rfl⟩
abbrev main_v27 : Ref sig .tc := ⟨.hbm, 45, rfl⟩
abbrev main_c_9 : Ref sig .tc := ⟨.hbm, 46, rfl⟩
abbrev main_call2_v0 : Ref sig .tc := ⟨.hbm, 47, rfl⟩
abbrev main_call2_v1 : Ref sig .tc := ⟨.hbm, 48, rfl⟩
abbrev main_v28 : Ref sig .tc := ⟨.hbm, 49, rfl⟩
abbrev main_cst_10 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_11 : Ref sig .tc := ⟨.hbm, 54, rfl⟩
abbrev main_v32 : Ref sig .tc := ⟨.hbm, 55, rfl⟩
abbrev main_v33 : Ref sig .tc := ⟨.hbm, 56, rfl⟩
abbrev main_c_12 : Ref sig .tc := ⟨.hbm, 57, rfl⟩
abbrev main_v34 : Ref sig .tc := ⟨.hbm, 58, rfl⟩
abbrev main_v35 : Ref sig .tc := ⟨.hbm, 59, rfl⟩
abbrev main_cst_13 : Ref sig .tc := ⟨.hbm, 60, rfl⟩
abbrev main_call3_v0 : Ref sig .tc := ⟨.hbm, 61, rfl⟩
abbrev main_call3_v1 : Ref sig .tc := ⟨.hbm, 62, rfl⟩
abbrev main_v36 : Ref sig .tc := ⟨.hbm, 63, rfl⟩
abbrev main_cst_14 : Ref sig .tc := ⟨.hbm, 64, rfl⟩
abbrev main_call4_v0 : Ref sig .tc := ⟨.hbm, 65, rfl⟩
abbrev main_call4_v1 : Ref sig .tc := ⟨.hbm, 66, rfl⟩
abbrev main_v37 : Ref sig .tc := ⟨.hbm, 67, rfl⟩
abbrev main_v38 : Ref sig .tc := ⟨.hbm, 68, rfl⟩
abbrev main_cst_15 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_c_16 : Ref sig .tc := ⟨.hbm, 73, rfl⟩
abbrev main_v42 : Ref sig .tc := ⟨.hbm, 74, rfl⟩
abbrev main_v43 : Ref sig .tc := ⟨.hbm, 75, rfl⟩
abbrev main_c_17 : Ref sig .tc := ⟨.hbm, 76, rfl⟩
abbrev main_v44 : Ref sig .tc := ⟨.hbm, 77, rfl⟩
abbrev main_v45 : Ref sig .tc := ⟨.hbm, 78, rfl⟩
abbrev main_cst_18 : Ref sig .tc := ⟨.hbm, 79, rfl⟩
abbrev main_call5_v0 : Ref sig .tc := ⟨.hbm, 80, rfl⟩
abbrev main_call5_v1 : Ref sig .tc := ⟨.hbm, 81, rfl⟩
abbrev main_v46 : Ref sig .tc := ⟨.hbm, 82, rfl⟩
abbrev main_cst_19 : Ref sig .tc := ⟨.hbm, 83, rfl⟩
abbrev main_call6_v0 : Ref sig .tc := ⟨.hbm, 84, rfl⟩
abbrev main_call6_v1 : Ref sig .tc := ⟨.hbm, 85, rfl⟩
abbrev main_v47 : Ref sig .tc := ⟨.hbm, 86, rfl⟩
abbrev main_v48 : Ref sig .tc := ⟨.hbm, 87, rfl⟩
abbrev main_c_20 : Ref sig .tc := ⟨.hbm, 88, rfl⟩
abbrev main_v49 : Ref sig .tc := ⟨.hbm, 89, rfl⟩
abbrev main_v50 : Ref sig .tc := ⟨.hbm, 90, rfl⟩
abbrev main_cst_21 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_c_22 : Ref sig .tc := ⟨.hbm, 95, rfl⟩
abbrev main_v54 : Ref sig .tc := ⟨.hbm, 96, rfl⟩
abbrev main_v55 : Ref sig .tc := ⟨.hbm, 97, rfl⟩
abbrev main_c_23 : Ref sig .tc := ⟨.hbm, 98, rfl⟩
abbrev main_v56 : Ref sig .tc := ⟨.hbm, 99, rfl⟩
abbrev main_v57 : Ref sig .tc := ⟨.hbm, 100, rfl⟩
abbrev main_cst_24 : Ref sig .tc := ⟨.hbm, 101, rfl⟩
abbrev main_call7_v0 : Ref sig .tc := ⟨.hbm, 102, rfl⟩
abbrev main_call7_v1 : Ref sig .tc := ⟨.hbm, 103, rfl⟩
abbrev main_v58 : Ref sig .tc := ⟨.hbm, 104, rfl⟩
abbrev main_cst_25 : Ref sig .tc := ⟨.hbm, 105, rfl⟩
abbrev main_call8_v0 : Ref sig .tc := ⟨.hbm, 106, rfl⟩
abbrev main_call8_v1 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67_0 : Ref sig .tc := ⟨.hbm, 116, rfl⟩
abbrev main_v67_1 : Ref sig .tc := ⟨.hbm, 117, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2048x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6912x1152 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6912x1152 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x6912 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1152 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Runs.lean ====
/- What both runs of the kernel's body share: when the first point's branch is taken, each window's staging buffer, the scratch buffers. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 9 = 0 :=
  (fun t => by
    have ht : t.val < 9 := Nat.lt_of_lt_of_eq t.isLt N_0
    have e0 : (grid0.coords t 0).val = t.val / 1 % 9 := Pipeline.Grid.coords_val t 0 (by decide) rfl
    simp only [cond0_0, k0_cond1, e0]
    word_cmp
   : ∀ t : Fin grid0.N, cond0_0 (grid0.coords t) ↔ t.val % 9 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S2048x1152 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S768x1152 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S768x36 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x768 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1152 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x256 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S2048x1152 .bf16 := Memref.whole cc0_scratch0
abbrev scM0_1 : Memref sig .tc .vmem S2048x128 .f32 := Memref.whole cc0_scratch1
abbrev scM0_2 : Memref sig .tc .vmem S768x1152 .bf16 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.RunA.lean ====
/- The kernel's body run once, at the first grid point: the pieces its stores leave, found by the symbolic executor. -/
module

public import proofs.«01_k».proof.Proof.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 5804000 in
/-- THE FIRST POINT. What the body's stores leave in the three outputs and in the scratch of quantised activations and
    the scratch of scales, as lists of pieces (last first), with the proof that the body, run on whole staging memrefs,
    leaves them so. -/
noncomputable def kernelRun0_A (c : Dev nD) (i : grid0.Coords) (arg1 : Memref sig .tc .vmem S2048x1152 .bf16) (harg1 : arg1.IsWhole) (arg2 : Memref sig .tc .vmem S768x1152 .fp8e4m3) (harg2 : arg2.IsWhole) (arg3 : Memref sig .tc .vmem S768x36 .i8) (harg3 : arg3.IsWhole) (arg4 : Memref sig .tc .vmem S2048x768 .bf16) (harg4 : arg4.IsWhole) (arg5 : Memref sig .tc .vmem S2048x1152 .fp8e4m3) (harg5 : arg5.IsWhole) (arg6 : Memref sig .tc .vmem S8x256 .f32) (harg6 : arg6.IsWhole) (arg7 : Memref sig .tc .vmem S2048x1152 .bf16) (harg7 : arg7.IsWhole) (arg8 : Memref sig .tc .vmem S2048x128 .f32) (harg8 : arg8.IsWhole) (arg9 : Memref sig .tc .vmem S768x1152 .bf16) (harg9 : arg9.IsWhole) (hc0 : cond0_0 i)
    (x0 : Vec F S2048x1152 .bf16) (x1 : Vec F S768x1152 .fp8e4m3) (x2 : Vec F S768x36 .i8) :
      Σ' (L3 : List (View.Piece (Elt F) S2048x768 .bf16)), Σ' (L4 : List (View.Piece (Elt F) S2048x1152 .fp8e4m3)), Σ' (L5 : List (View.Piece (Elt F) S8x256 .f32)), Σ' (LS0 : List (View.Piece (Elt F) S2048x1152 .bf16)), { LS1 : List (View.Piece (Elt F) S2048x128 .f32) //
        ∀ (E : Set ℕ) (K : PUnit → sProp 𝕄),
          iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ d, owns (c : Thread nD τ) arg9 fullShare d)) -∗ K ⟨⟩))
          ⊢ wp frame (wpE (defs₀ (F := F)) Variants.none c none) E (cc0_mxfp8_linear i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0_mxfp8_linear_eq_skeleton]; unfold cc0_mxfp8_linear_skel
    simp only [k0_part110_eq_skeleton, k0_part108_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part109_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    isplitl [HS1]; · iexists _; iexact HS1
    iexists _, _; isplitr; swap; · iexact HS2
    ipureintro; rfl

end Cert.KernelIdeal.Gen

end
-- ==== Proof.RunB.lean ====
/- The kernel's body run once, at a later grid point: the pieces its stores leave, found by the symbolic executor. -/
module

public import proofs.«01_k».proof.Proof.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 1000000 in
/-- A LATER POINT. What the body's stores leave in the product's buffer, as a list of pieces (last first), with the proof
    that the body, run on whole staging memrefs, leaves it so; the codes', the scales' and the two carried scratch
    buffers come back as they went in. -/
noncomputable def kernelRun0_B (c : Dev nD) (i : grid0.Coords) (arg1 : Memref sig .tc .vmem S2048x1152 .bf16) (harg1 : arg1.IsWhole) (arg2 : Memref sig .tc .vmem S768x1152 .fp8e4m3) (harg2 : arg2.IsWhole) (arg3 : Memref sig .tc .vmem S768x36 .i8) (harg3 : arg3.IsWhole) (arg4 : Memref sig .tc .vmem S2048x768 .bf16) (harg4 : arg4.IsWhole) (arg5 : Memref sig .tc .vmem S2048x1152 .fp8e4m3) (harg5 : arg5.IsWhole) (arg6 : Memref sig .tc .vmem S8x256 .f32) (harg6 : arg6.IsWhole) (arg7 : Memref sig .tc .vmem S2048x1152 .bf16) (harg7 : arg7.IsWhole) (arg8 : Memref sig .tc .vmem S2048x128 .f32) (harg8 : arg8.IsWhole) (arg9 : Memref sig .tc .vmem S768x1152 .bf16) (harg9 : arg9.IsWhole) (hc0 : ¬cond0_0 i)
    (x0 : Vec F S2048x1152 .bf16) (x1 : Vec F S768x1152 .fp8e4m3) (x2 : Vec F S768x36 .i8) (xs0 : Vec F S2048x1152 .bf16) (xs1 : Vec F S2048x128 .f32) :
      { L3 : List (View.Piece (Elt F) S2048x768 .bf16) //
        ∀ (x4 : Vec F S2048x1152 .fp8e4m3) (x5 : Vec F S8x256 .f32) (E : Set ℕ) (K : PUnit → sProp 𝕄),
          iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x4 ∗ owns (c : Thread nD τ) arg6 fullShare x5 ∗ owns (c : Thread nD τ) arg7 fullShare xs0 ∗ owns (c : Thread nD τ) arg8 fullShare xs1 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare x4 ∗ owns (c : Thread nD τ) arg6 fullShare x5 ∗ owns (c : Thread nD τ) arg7 fullShare xs0 ∗ owns (c : Thread nD τ) arg8 fullShare xs1 ∗ (∃ d, owns (c : Thread nD τ) arg9 fullShare d)) -∗ K ⟨⟩))
          ⊢ wp frame (wpE (defs₀ (F := F)) Variants.none c none) E (cc0_mxfp8_linear i arg1 harg1 arg2 harg2 arg3 harg3 arg4 harg4 arg5 harg5 arg6 harg6 arg7 harg7 arg8 harg8 arg9 harg9) K } := by
  refine ⟨?_, fun x4 x5 E K => ?run⟩
  case run =>
    simp only [cc0_mxfp8_linear_eq_skeleton]; unfold cc0_mxfp8_linear_skel
    simp only [k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, ⟨%ds2, %fs2, -, HS2⟩, Hk⟩
    obtain rfl := harg1.eq_unread hf0; obtain rfl := harg2.eq_unread hf1; obtain rfl := harg3.eq_unread hf2
    obtain rfl := harg5.eq_unread hf4; obtain rfl := harg6.eq_unread hf5
    obtain rfl := harg7.eq_unread hfs0; obtain rfl := harg8.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]
    · iexists _; isplitr; · ipureintro; exact harg7.read_unread _
      iexact HS0
    isplitl [HS1]
    · iexists _; isplitr; · ipureintro; exact harg8.read_unread _
      iexact HS1
    iexists _, _; isplitr; swap; · iexact HS2
    ipureintro; rfl

end Cert.KernelIdeal.Gen

end
-- ==== Proof.Blocks.lean ====
/- The values the kernel's body works with, named: one block of 128 rows of the activations quantised, one chunk of 128
   columns of the weights dequantised, one tile of the product. Each is the printed chain of operations, whole. -/
module

public import proofs.«01_k».proof.Proof.RunB
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic

variable {F : FTy → Type} [FloatOps F]

/-! ## One block of 128 rows -/

theorem inb_tile (r : Fin 16) (j : Fin 9) :
    ∀ a : Fin S2048x1152.rank, (![128 * r.val, 128 * j.val] : Fin 2 → ℕ) a + S128x128.size a ≤ S2048x1152.size a := by
  intro a
  have hr := r.isLt
  have hj := j.isLt
  match a with
  | ⟨0, _⟩ => show 128 * r.val + 128 ≤ 2048; omega
  | ⟨1, _⟩ => show 128 * j.val + 128 ≤ 1152; omega

/-- The tile of rows `128 r …` and columns `128 j …` of the activations. -/
abbrev tile (r : Fin 16) (j : Fin 9) : Rect S2048x1152 := Rect.unit ![128 * r.val, 128 * j.val] S128x128.size (inb_tile r j)

/-- The activations in that tile. -/
abbrev xtile (x : Vec F S2048x1152 .bf16) (r : Fin 16) (j : Fin 9) : Vec F S128x128 .bf16 := View.ld x (tile r j)

/-- The greatest magnitude of each row of a block, over its nine chunks of 128 columns. -/
def rowMax (b : Fin 9 → Vec F S128x128 .bf16) : FVec F S128x1 .f32 :=
  k0_pay3 (b 0) (b 1) (b 2) (b 3) (b 4) (b 5) (b 6) (b 7) (b 8)

/-- The row's scale, in every lane. -/
def rowScale (b : Fin 9 → Vec F S128x128 .bf16) : FVec F S128x128 .f32 := k0_pay7 (k0_pay4 (rowMax b)) (k0_pay5 (rowMax b))

/-- The scale's reciprocal, in every lane. -/
def rowInv (b : Fin 9 → Vec F S128x128 .bf16) : FVec F S128x128 .bf16 := k0_pay8 (k0_pay4 (rowMax b)) (k0_pay5 (rowMax b))

/-- The scales of a block's rows as the scratch keeps them. -/
def rowCol (b : Fin 9 → Vec F S128x128 .bf16) : FVec F S128x128 .f32 := k0_pay9 (k0_pay4 (rowMax b)) (k0_pay5 (rowMax b))

/-- The scales of a block's rows laid along the lanes: the diagonal, taken by a maximum over the rows. -/
def rowDiag (b : Fin 9 → Vec F S128x128 .bf16) : FVec F S1x128 .f32 :=
  k0_pay10 (iota .tc S128x128 32 [1] iota_S128x128_d1_w32) (iota .tc S128x128 32 [0] iota_S128x128_d0_w32)
    (k0_pay4 (rowMax b)) (k0_pay5 (rowMax b))

/-- The codes of one tile. -/
def tileCodes (b : Fin 9 → Vec F S128x128 .bf16) (j : Fin 9) : FVec F S128x128 .fp8e4m3 := k0_pay11 (rowInv b) (b j)

/-- The codes of one tile as the product reads them. -/
def tileQuant (b : Fin 9 → Vec F S128x128 .bf16) (j : Fin 9) : FVec F S128x128 .bf16 := k0_pay12 (rowInv b) (b j)

/-- Every tile, the last stored first. -/
def tiles : List (Fin 16 × Fin 9) := (List.finRange 16).reverse.flatMap fun r => (List.finRange 9).reverse.map fun j => (r, j)

/-- Every block of rows, the last stored first. -/
def rowBlocks : List (Fin 16) := (List.finRange 16).reverse

theorem inb_diag (r : Fin 16) :
    ∀ a : Fin S8x256.rank, (![r.val / 2, 128 * (r.val % 2)] : Fin 2 → ℕ) a + S1x128.size a ≤ S8x256.size a := by
  intro a
  have hr := r.isLt
  match a with
  | ⟨0, _⟩ => show r.val / 2 + 1 ≤ 8; omega
  | ⟨1, _⟩ => show 128 * (r.val % 2) + 128 ≤ 256; omega

theorem inb_col (r : Fin 16) :
    ∀ a : Fin S2048x128.rank, (![128 * r.val, 0] : Fin 2 → ℕ) a + S128x128.size a ≤ S2048x128.size a := by
  intro a
  have hr := r.isLt
  match a with
  | ⟨0, _⟩ => show 128 * r.val + 128 ≤ 2048; omega
  | ⟨1, _⟩ => show 0 + 128 ≤ 128; omega

/-- Where the scales of a block of rows go in the array of scales. -/
abbrev diagRect (r : Fin 16) : Rect S8x256 := Rect.unit ![r.val / 2, 128 * (r.val % 2)] S1x128.size (inb_diag r)

/-- Where the scales of a block of rows go in the scratch. -/
abbrev colRect (r : Fin 16) : Rect S2048x128 := Rect.unit ![128 * r.val, 0] S128x128.size (inb_col r)

/-! ## The weights, and the product's tiles -/

theorem inb_chunk (j : Fin 9) :
    ∀ a : Fin S768x1152.rank, (![0, 128 * j.val] : Fin 2 → ℕ) a + S768x128.size a ≤ S768x1152.size a := by
  intro a
  have hj := j.isLt
  match a with
  | ⟨0, _⟩ => show 0 + 768 ≤ 768; omega
  | ⟨1, _⟩ => show 128 * j.val + 128 ≤ 1152; omega

/-- Columns `128 j …` of a block of the weights. -/
abbrev chunk (j : Fin 9) : Rect S768x1152 := Rect.unit ![0, 128 * j.val] S768x128.size (inb_chunk j)

/-- Every chunk of columns, the last stored first. -/
def chunks : List (Fin 9) := (List.finRange 9).reverse

/-- Each lane's number divided by 32, rounded down. -/
def laneGroup : IVec S768x128 32 :=
  have lane : IVec S768x128 32 := iota .tc S768x128 32 [1] iota_S768x128_d1_w32
  have q : IVec S768x128 32 := divsi lane (broadcast S768x128 32#32)
  have sign : IVec S768x128 32 :=
    subi (extui 32 (cmpi .sgt lane (broadcast S768x128 0#32)) natLt_1_32) (extui 32 (cmpi .slt lane (broadcast S768x128 0#32)) natLt_1_32)
  have differ : IVec S768x128 1 :=
    cmpi .ne sign (broadcast S768x128 (Scalar.subi (Scalar.extui (Scalar.cmpi .sgt 32#32 0#32)) (Scalar.extui (Scalar.cmpi .slt 32#32 0#32))))
  have inexact : IVec S768x128 1 := cmpi .ne (remsi lane (broadcast S768x128 32#32)) (broadcast S768x128 0#32)
  select (andi differ inexact) (subi q (broadcast S768x128 1#32)) q

/-- The group of 32 columns each lane of chunk `j` lies in. -/
def chunkGroup (j : Fin 9) : IVec S768x128 32 :=
  have g : IVec S768x128 32 := addi laneGroup (broadcast S768x128 (BitVec.ofNat 32 (4 * j.val)))
  select (cmpi .slt g (broadcast S768x128 0#32)) (addi g (broadcast S768x128 128#32)) g

/-- One chunk of 128 columns of the weights, each times the scale of its group of 32: chunk `j` takes groups `4 j …` of `s`. -/
def chunkWeights (s : Vec F S768x36 .i8) (w : Vec F S768x128 .fp8e4m3) (j : Fin 9) : FVec F S768x128 .bf16 :=
  k0_pay515 (k0_pay513 s) (chunkGroup j) w

theorem inb_rows (r : Fin 2) :
    ∀ a : Fin S2048x1152.rank, (![1024 * r.val, 0] : Fin 2 → ℕ) a + S1024x1152.size a ≤ S2048x1152.size a := by
  intro a
  have hr := r.isLt
  match a with
  | ⟨0, _⟩ => show 1024 * r.val + 1024 ≤ 2048; omega
  | ⟨1, _⟩ => show 0 + 1152 ≤ 1152; omega

theorem inb_wrows (j : Fin 3) :
    ∀ a : Fin S768x1152.rank, (![256 * j.val, 0] : Fin 2 → ℕ) a + S256x1152.size a ≤ S768x1152.size a := by
  intro a
  have hj := j.isLt
  match a with
  | ⟨0, _⟩ => show 256 * j.val + 256 ≤ 768; omega
  | ⟨1, _⟩ => show 0 + 1152 ≤ 1152; omega

theorem inb_srows (r : Fin 2) :
    ∀ a : Fin S2048x128.rank, (![1024 * r.val, 0] : Fin 2 → ℕ) a + S1024x128.size a ≤ S2048x128.size a := by
  intro a
  have hr := r.isLt
  match a with
  | ⟨0, _⟩ => show 1024 * r.val + 1024 ≤ 2048; omega
  | ⟨1, _⟩ => show 0 + 128 ≤ 128; omega

theorem inb_out (r : Fin 2) (j : Fin 3) :
    ∀ a : Fin S2048x768.rank, (![1024 * r.val, 256 * j.val] : Fin 2 → ℕ) a + (![1024, 256] : Fin 2 → ℕ) a ≤ S2048x768.size a := by
  intro a
  have hr := r.isLt
  have hj := j.isLt
  match a with
  | ⟨0, _⟩ => show 1024 * r.val + 1024 ≤ 2048; omega
  | ⟨1, _⟩ => show 256 * j.val + 256 ≤ 768; omega

/-- Half of the rows of the quantised activations. -/
abbrev halfRows (r : Fin 2) : Rect S2048x1152 := Rect.unit ![1024 * r.val, 0] S1024x1152.size (inb_rows r)
/-- A third of the rows of a block of the weights. -/
abbrev thirdRows (j : Fin 3) : Rect S768x1152 := Rect.unit ![256 * j.val, 0] S256x1152.size (inb_wrows j)
/-- Half of the rows of the scales in the scratch. -/
abbrev halfScales (r : Fin 2) : Rect S2048x128 := Rect.unit ![1024 * r.val, 0] S1024x128.size (inb_srows r)
/-- One tile of a block of the product. -/
abbrev outTile (r : Fin 2) (j : Fin 3) : Rect S2048x768 := Rect.unit ![1024 * r.val, 256 * j.val] ![1024, 256] (inb_out r j)

/-- Every tile of a block of the product, the last stored first. -/
def outTiles : List (Fin 2 × Fin 3) := (List.finRange 3).reverse.flatMap fun j => (List.finRange 2).reverse.map fun r => (r, j)

/-- One tile of the product: the codes times the weights, summed over the columns, times the rows' scales. -/
def tileProduct (q : Vec F S1024x1152 .bf16) (w : Vec F S256x1152 .bf16) (s : Vec F S1024x128 .f32) : FVec F S1024x256 .bf16 :=
  k0_pay535 q w s

/-- The chunks of a block of the weights, as pieces. -/
def weightPieces (w : Vec F S768x1152 .fp8e4m3) (s : Vec F S768x36 .i8) : List (View.Piece (Elt F) S768x1152 .bf16) :=
  chunks.map fun j => ⟨chunk j, chunkWeights s (View.ld w (chunk j)) j⟩

/-- The scales of the groups, read whole. -/
abbrev groupScales (s : Vec F S768x36 .i8) : Vec F S768x36 .i8 :=
  View.ld s (Rect.unit ![0, 0] S768x36.size inb_S768x36_S768x36_0_0)

/-! ## What the first point leaves, piece by piece -/

section first
variable (c : Dev nD) (i : grid0.Coords) (arg1 : Memref sig .tc .vmem S2048x1152 .bf16) (harg1 : arg1.IsWhole) (arg2 : Memref sig .tc .vmem S768x1152 .fp8e4m3) (harg2 : arg2.IsWhole) (arg3 : Memref sig .tc .vmem S768x36 .i8) (harg3 : arg3.IsWhole) (arg4 : Memref sig .tc .vmem S2048x768 .bf16) (harg4 : arg4.IsWhole) (arg5 : Memref sig .tc .vmem S2048x1152 .fp8e4m3) (harg5 : arg5.IsWhole) (arg6 : Memref sig .tc .vmem S8x256 .f32) (harg6 : arg6.IsWhole) (arg7 : Memref sig .tc .vmem S2048x1152 .bf16) (harg7 : arg7.IsWhole) (arg8 : Memref sig .tc .vmem S2048x128 .f32) (harg8 : arg8.IsWhole) (arg9 : Memref sig .tc .vmem S768x1152 .bf16) (harg9 : arg9.IsWhole)
  (hc : cond0_0 i) (x0 : Vec F S2048x1152 .bf16) (x1 : Vec F S768x1152 .fp8e4m3) (x2 : Vec F S768x36 .i8)

/-- The scales stored are the blocks' diagonals. -/
theorem run_A_scales :
    (kernelRun0_A (F := F) c i arg1 harg1 arg2 harg2 arg3 harg3 arg4 harg4 arg5 harg5 arg6 harg6 arg7 harg7 arg8 harg8 arg9 harg9 hc x0 x1 x2).2.2.1
      = rowBlocks.map fun r => ⟨diagRect r, rowDiag (xtile (arg1.view.read (Elt F) (harg1.unread x0)) r)⟩ := by
  unfold kernelRun0_A
  rfl

/-- The codes stored are the tiles'. -/
theorem run_A_codes :
    (kernelRun0_A (F := F) c i arg1 harg1 arg2 harg2 arg3 harg3 arg4 harg4 arg5 harg5 arg6 harg6 arg7 harg7 arg8 harg8 arg9 harg9 hc x0 x1 x2).2.1
      = tiles.map fun p => ⟨tile p.1 p.2, tileCodes (xtile (arg1.view.read (Elt F) (harg1.unread x0)) p.1) p.2⟩ := by
  unfold kernelRun0_A
  rfl

/-- The scratch of codes holds the tiles'. -/
theorem run_A_quant :
    (kernelRun0_A (F := F) c i arg1 harg1 arg2 harg2 arg3 harg3 arg4 harg4 arg5 harg5 arg6 harg6 arg7 harg7 arg8 harg8 arg9 harg9 hc x0 x1 x2).2.2.2.1
      = tiles.map fun p => ⟨tile p.1 p.2, tileQuant (xtile (arg1.view.read (Elt F) (harg1.unread x0)) p.1) p.2⟩ := by
  unfold kernelRun0_A
  rfl

/-- The scratch of scales holds the blocks'. -/
theorem run_A_cols :
    (kernelRun0_A (F := F) c i arg1 harg1 arg2 harg2 arg3 harg3 arg4 harg4 arg5 harg5 arg6 harg6 arg7 harg7 arg8 harg8 arg9 harg9 hc x0 x1 x2).2.2.2.2.1
      = rowBlocks.map fun r => ⟨colRect r, rowCol (xtile (arg1.view.read (Elt F) (harg1.unread x0)) r)⟩ := by
  unfold kernelRun0_A
  rfl

/-- The product's tiles, each from what the scratch buffers hold. -/
theorem run_A_product :
    (kernelRun0_A (F := F) c i arg1 harg1 arg2 harg2 arg3 harg3 arg4 harg4 arg5 harg5 arg6 harg6 arg7 harg7 arg8 harg8 arg9 harg9 hc x0 x1 x2).1
      = outTiles.map fun p => ⟨outTile p.1 p.2, tileProduct
          (arg7.view.readCov (tiles.map fun p => ⟨tile p.1 p.2, tileQuant (xtile (arg1.view.read (Elt F) (harg1.unread x0)) p.1) p.2⟩) (halfRows p.1).toLoadRect)
          (arg9.view.readCov (weightPieces (arg2.view.read (Elt F) (harg2.unread x1)) (groupScales (arg3.view.read (Elt F) (harg3.unread x2)))) (thirdRows p.2).toLoadRect)
          (arg8.view.readCov (rowBlocks.map fun r => ⟨colRect r, rowCol (xtile (arg1.view.read (Elt F) (harg1.unread x0)) r)⟩) (halfScales p.1).toLoadRect)⟩ := by
  unfold kernelRun0_A
  rfl

end first

/-! ## What a later point leaves, piece by piece -/

section later
variable (c : Dev nD) (i : grid0.Coords) (arg1 : Memref sig .tc .vmem S2048x1152 .bf16) (harg1 : arg1.IsWhole) (arg2 : Memref sig .tc .vmem S768x1152 .fp8e4m3) (harg2 : arg2.IsWhole) (arg3 : Memref sig .tc .vmem S768x36 .i8) (harg3 : arg3.IsWhole) (arg4 : Memref sig .tc .vmem S2048x768 .bf16) (harg4 : arg4.IsWhole) (arg5 : Memref sig .tc .vmem S2048x1152 .fp8e4m3) (harg5 : arg5.IsWhole) (arg6 : Memref sig .tc .vmem S8x256 .f32) (harg6 : arg6.IsWhole) (arg7 : Memref sig .tc .vmem S2048x1152 .bf16) (harg7 : arg7.IsWhole) (arg8 : Memref sig .tc .vmem S2048x128 .f32) (harg8 : arg8.IsWhole) (arg9 : Memref sig .tc .vmem S768x1152 .bf16) (harg9 : arg9.IsWhole)
  (hc : ¬ cond0_0 i) (x0 : Vec F S2048x1152 .bf16) (x1 : Vec F S768x1152 .fp8e4m3) (x2 : Vec F S768x36 .i8)
  (xs0 : Vec F S2048x1152 .bf16) (xs1 : Vec F S2048x128 .f32)

/-- The product's tiles, from the two scratch buffers as the point before left them. -/
theorem run_B_product :
    (kernelRun0_B (F := F) c i arg1 harg1 arg2 harg2 arg3 harg3 arg4 harg4 arg5 harg5 arg6 harg6 arg7 harg7 arg8 harg8 arg9 harg9 hc x0 x1 x2 xs0 xs1).1
      = outTiles.map fun p => ⟨outTile p.1 p.2, tileProduct
          (View.ld (arg7.view.read (Elt F) (harg7.unread xs0)) (halfRows p.1))
          (arg9.view.readCov (weightPieces (arg2.view.read (Elt F) (harg2.unread x1)) (groupScales (arg3.view.read (Elt F) (harg3.unread x2)))) (thirdRows p.2).toLoadRect)
          (View.ld (arg8.view.read (Elt F) (harg8.unread xs1)) (halfScales p.1))⟩ := by
  unfold kernelRun0_B
  rfl

end later

end Cert.KernelIdeal.Gen

end
-- ==== Proof.Contents.lean ====
/- What the kernel's body leaves in each buffer, as one term per buffer, and the body's triple at the first grid point
   and at a later one. -/
module

public import proofs.«01_k».proof.Proof.Blocks

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What each buffer holds -/

/-- The codes of the activations. -/
def codesOf (x : Vec F S2048x1152 .bf16) : Vec F S2048x1152 .fp8e4m3 :=
  View.canon (tiles.map fun p => ⟨tile p.1 p.2, tileCodes (xtile x p.1) p.2⟩)

/-- The scales of the activations' rows. -/
def scalesOf (x : Vec F S2048x1152 .bf16) : Vec F S8x256 .f32 :=
  View.canon (rowBlocks.map fun r => ⟨diagRect r, rowDiag (xtile x r)⟩)

/-- The codes as the product reads them. -/
def quantOf (x : Vec F S2048x1152 .bf16) : Vec F S2048x1152 .bf16 :=
  View.canon (tiles.map fun p => ⟨tile p.1 p.2, tileQuant (xtile x p.1) p.2⟩)

/-- The scales as the product reads them: a row's scale in every lane. -/
def colsOf (x : Vec F S2048x1152 .bf16) : Vec F S2048x128 .f32 :=
  View.canon (rowBlocks.map fun r => ⟨colRect r, rowCol (xtile x r)⟩)

/-- A block of the weights, dequantised. -/
def weightsOf (w : Vec F S768x1152 .fp8e4m3) (s : Vec F S768x36 .i8) : Vec F S768x1152 .bf16 :=
  View.canon (weightPieces w (groupScales s))

/-- A block of the product. -/
def productOf (q : Vec F S2048x1152 .bf16) (w : Vec F S768x1152 .bf16) (s : Vec F S2048x128 .f32) : Vec F S2048x768 .bf16 :=
  View.canon (outTiles.map fun p =>
    ⟨outTile p.1 p.2, tileProduct (View.ld q (halfRows p.1)) (View.ld w (thirdRows p.2)) (View.ld s (halfScales p.1))⟩)

/-! ## The pieces cover -/

/-- The tiles cover the activations. -/
theorem cover_tiles {e : EltTy} (P : Fin 16 × Fin 9 → (S128x128.Idx → Elt F e)) (y : S2048x1152.Idx) :
    ∃ p ∈ (tiles.map fun p => (⟨tile p.1 p.2, P p⟩ : View.Piece (Elt F) S2048x1152 e)), y ∈ p.1.set := by
  have h0 : (y 0).val < 2048 := (y 0).isLt
  have h1 : (y 1).val < 1152 := (y 1).isLt
  refine ⟨_, List.mem_map_of_mem (a := ((⟨(y 0).val / 128, by omega⟩ : Fin 16), (⟨(y 1).val / 128, by omega⟩ : Fin 9))) (by
    simp [tiles]), ?_⟩
  rw [Rect.mem_set_unit]
  intro a
  match a with
  | ⟨0, _⟩ => show 128 * ((y 0).val / 128) ≤ (y 0).val ∧ (y 0).val < 128 * ((y 0).val / 128) + 128; omega
  | ⟨1, _⟩ => show 128 * ((y 1).val / 128) ≤ (y 1).val ∧ (y 1).val < 128 * ((y 1).val / 128) + 128; omega

/-- The blocks' diagonals cover the scales. -/
theorem cover_diag {e : EltTy} (P : Fin 16 → (S1x128.Idx → Elt F e)) (y : S8x256.Idx) :
    ∃ p ∈ (rowBlocks.map fun r => (⟨diagRect r, P r⟩ : View.Piece (Elt F) S8x256 e)), y ∈ p.1.set := by
  have h0 : (y 0).val < 8 := (y 0).isLt
  have h1 : (y 1).val < 256 := (y 1).isLt
  refine ⟨_, List.mem_map_of_mem (a := (⟨2 * (y 0).val + (y 1).val / 128, by omega⟩ : Fin 16)) (by
    simp [rowBlocks]), ?_⟩
  rw [Rect.mem_set_unit]
  intro a
  match a with
  | ⟨0, _⟩ =>
    show (2 * (y 0).val + (y 1).val / 128) / 2 ≤ (y 0).val ∧ (y 0).val < (2 * (y 0).val + (y 1).val / 128) / 2 + 1; omega
  | ⟨1, _⟩ =>
    show 128 * ((2 * (y 0).val + (y 1).val / 128) % 2) ≤ (y 1).val ∧ (y 1).val < 128 * ((2 * (y 0).val + (y 1).val / 128) % 2) + 128
    omega

/-- The blocks' scales cover the scratch of scales. -/
theorem cover_cols {e : EltTy} (P : Fin 16 → (S128x128.Idx → Elt F e)) (y : S2048x128.Idx) :
    ∃ p ∈ (rowBlocks.map fun r => (⟨colRect r, P r⟩ : View.Piece (Elt F) S2048x128 e)), y ∈ p.1.set := by
  have h0 : (y 0).val < 2048 := (y 0).isLt
  have h1 : (y 1).val < 128 := (y 1).isLt
  refine ⟨_, List.mem_map_of_mem (a := (⟨(y 0).val / 128, by omega⟩ : Fin 16)) (by
    simp [rowBlocks]), ?_⟩
  rw [Rect.mem_set_unit]
  intro a
  match a with
  | ⟨0, _⟩ => show 128 * ((y 0).val / 128) ≤ (y 0).val ∧ (y 0).val < 128 * ((y 0).val / 128) + 128; omega
  | ⟨1, _⟩ => show 0 ≤ (y 1).val ∧ (y 1).val < 0 + 128; omega

/-- The chunks cover a block of the weights. -/
theorem cover_chunks {e : EltTy} (P : Fin 9 → (S768x128.Idx → Elt F e)) (y : S768x1152.Idx) :
    ∃ p ∈ (chunks.map fun j => (⟨chunk j, P j⟩ : View.Piece (Elt F) S768x1152 e)), y ∈ p.1.set := by
  have h0 : (y 0).val < 768 := (y 0).isLt
  have h1 : (y 1).val < 1152 := (y 1).isLt
  refine ⟨_, List.mem_map_of_mem (a := (⟨(y 1).val / 128, by omega⟩ : Fin 9)) (by
    simp [chunks]), ?_⟩
  rw [Rect.mem_set_unit]
  intro a
  match a with
  | ⟨0, _⟩ => show 0 ≤ (y 0).val ∧ (y 0).val < 0 + 768; omega
  | ⟨1, _⟩ => show 128 * ((y 1).val / 128) ≤ (y 1).val ∧ (y 1).val < 128 * ((y 1).val / 128) + 128; omega

/-- The tiles cover a block of the product. -/
theorem cover_out {e : EltTy} (P : Fin 2 × Fin 3 → ((⟨2, ![1024, 256]⟩ : Shape).Idx → Elt F e)) (y : S2048x768.Idx) :
    ∃ p ∈ (outTiles.map fun p => (⟨outTile p.1 p.2, P p⟩ : View.Piece (Elt F) S2048x768 e)), y ∈ p.1.set := by
  have h0 : (y 0).val < 2048 := (y 0).isLt
  have h1 : (y 1).val < 768 := (y 1).isLt
  refine ⟨_, List.mem_map_of_mem (a := ((⟨(y 0).val / 1024, by omega⟩ : Fin 2), (⟨(y 1).val / 256, by omega⟩ : Fin 3))) (by
    simp [outTiles]), ?_⟩
  rw [Rect.mem_set_unit]
  intro a
  match a with
  | ⟨0, _⟩ => show 1024 * ((y 0).val / 1024) ≤ (y 0).val ∧ (y 0).val < 1024 * ((y 0).val / 1024) + 1024; omega
  | ⟨1, _⟩ => show 256 * ((y 1).val / 256) ≤ (y 1).val ∧ (y 1).val < 256 * ((y 1).val / 256) + 256; omega

/-! ## The contents left -/

section left
variable (c : Dev nD) (i : grid0.Coords) (arg1 : Memref sig .tc .vmem S2048x1152 .bf16) (harg1 : arg1.IsWhole) (arg2 : Memref sig .tc .vmem S768x1152 .fp8e4m3) (harg2 : arg2.IsWhole) (arg3 : Memref sig .tc .vmem S768x36 .i8) (harg3 : arg3.IsWhole) (arg4 : Memref sig .tc .vmem S2048x768 .bf16) (harg4 : arg4.IsWhole) (arg5 : Memref sig .tc .vmem S2048x1152 .fp8e4m3) (harg5 : arg5.IsWhole) (arg6 : Memref sig .tc .vmem S8x256 .f32) (harg6 : arg6.IsWhole) (arg7 : Memref sig .tc .vmem S2048x1152 .bf16) (harg7 : arg7.IsWhole) (arg8 : Memref sig .tc .vmem S2048x128 .f32) (harg8 : arg8.IsWhole) (arg9 : Memref sig .tc .vmem S768x1152 .bf16) (harg9 : arg9.IsWhole)
  (x0 : Vec F S2048x1152 .bf16) (x1 : Vec F S768x1152 .fp8e4m3) (x2 : Vec F S768x36 .i8)

/-- The first point leaves the product. -/
theorem left_product (hc : cond0_0 i) (f) :
    arg4.view.read (Elt F) (arg4.view.writes (Elt F) f (kernelRun0_A (F := F) c i arg1 harg1 arg2 harg2 arg3 harg3 arg4 harg4 arg5 harg5 arg6 harg6 arg7 harg7 arg8 harg8 arg9 harg9 hc x0 x1 x2).1) = productOf (quantOf x0) (weightsOf x1 x2) (colsOf x0) := by
  rw [run_A_product]
  simp only [View.readCov_eq_canon', harg1.read_unread, harg2.read_unread, harg3.read_unread]
  exact View.read_writes_eq_canon _ _ _ (cover_out _)

/-- The first point leaves the codes. -/
theorem left_codes (hc : cond0_0 i) (f) :
    arg5.view.read (Elt F) (arg5.view.writes (Elt F) f (kernelRun0_A (F := F) c i arg1 harg1 arg2 harg2 arg3 harg3 arg4 harg4 arg5 harg5 arg6 harg6 arg7 harg7 arg8 harg8 arg9 harg9 hc x0 x1 x2).2.1) = codesOf x0 := by
  rw [run_A_codes]
  simp only [harg1.read_unread]
  exact View.read_writes_eq_canon _ _ _ (cover_tiles _)

/-- The first point leaves the scales. -/
theorem left_scales (hc : cond0_0 i) (f) :
    arg6.view.read (Elt F) (arg6.view.writes (Elt F) f (kernelRun0_A (F := F) c i arg1 harg1 arg2 harg2 arg3 harg3 arg4 harg4 arg5 harg5 arg6 harg6 arg7 harg7 arg8 harg8 arg9 harg9 hc x0 x1 x2).2.2.1) = scalesOf x0 := by
  rw [run_A_scales]
  simp only [harg1.read_unread]
  exact View.read_writes_eq_canon _ _ _ (cover_diag _)

/-- The first point leaves the codes for the product. -/
theorem left_quant (hc : cond0_0 i) (f) :
    arg7.view.read (Elt F) (arg7.view.writes (Elt F) f (kernelRun0_A (F := F) c i arg1 harg1 arg2 harg2 arg3 harg3 arg4 harg4 arg5 harg5 arg6 harg6 arg7 harg7 arg8 harg8 arg9 harg9 hc x0 x1 x2).2.2.2.1) = quantOf x0 := by
  rw [run_A_quant]
  simp only [harg1.read_unread]
  exact View.read_writes_eq_canon _ _ _ (cover_tiles _)

/-- The first point leaves the scales for the product. -/
theorem left_cols (hc : cond0_0 i) (f) :
    arg8.view.read (Elt F) (arg8.view.writes (Elt F) f (kernelRun0_A (F := F) c i arg1 harg1 arg2 harg2 arg3 harg3 arg4 harg4 arg5 harg5 arg6 harg6 arg7 harg7 arg8 harg8 arg9 harg9 hc x0 x1 x2).2.2.2.2.1) = colsOf x0 := by
  rw [run_A_cols]
  simp only [harg1.read_unread]
  exact View.read_writes_eq_canon _ _ _ (cover_cols _)

/-- A later point leaves the product. -/
theorem left_later (hc : ¬ cond0_0 i) (xs0 : Vec F S2048x1152 .bf16) (xs1 : Vec F S2048x128 .f32) (f) :
    arg4.view.read (Elt F) (arg4.view.writes (Elt F) f (kernelRun0_B (F := F) c i arg1 harg1 arg2 harg2 arg3 harg3 arg4 harg4 arg5 harg5 arg6 harg6 arg7 harg7 arg8 harg8 arg9 harg9 hc x0 x1 x2 xs0 xs1).1) = productOf xs0 (weightsOf x1 x2) xs1 := by
  rw [run_B_product]
  simp only [View.readCov_eq_canon', harg2.read_unread, harg3.read_unread, harg7.read_unread, harg8.read_unread]
  exact View.read_writes_eq_canon _ _ _ (cover_out _)

end left

/-! ## The body's triples -/

/-- THE FIRST POINT: the body leaves the product's block, the codes, the scales, and in the two scratch buffers the codes and
    the scales as every point's product reads them. -/
theorem body_first (c : Dev nD) (i : grid0.Coords) (arg1 : Memref sig .tc .vmem S2048x1152 .bf16) (harg1 : arg1.IsWhole) (arg2 : Memref sig .tc .vmem S768x1152 .fp8e4m3) (harg2 : arg2.IsWhole) (arg3 : Memref sig .tc .vmem S768x36 .i8) (harg3 : arg3.IsWhole) (arg4 : Memref sig .tc .vmem S2048x768 .bf16) (harg4 : arg4.IsWhole) (arg5 : Memref sig .tc .vmem S2048x1152 .fp8e4m3) (harg5 : arg5.IsWhole) (arg6 : Memref sig .tc .vmem S8x256 .f32) (harg6 : arg6.IsWhole) (arg7 : Memref sig .tc .vmem S2048x1152 .bf16) (harg7 : arg7.IsWhole) (arg8 : Memref sig .tc .vmem S2048x128 .f32) (harg8 : arg8.IsWhole) (arg9 : Memref sig .tc .vmem S768x1152 .bf16) (harg9 : arg9.IsWhole)
    (hc : cond0_0 i) (x0 : Vec F S2048x1152 .bf16) (x1 : Vec F S768x1152 .fp8e4m3) (x2 : Vec F S768x36 .i8) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare (productOf (quantOf x0) (weightsOf x1 x2) (colsOf x0)) ∗ owns (c : Thread nD τ) arg5 fullShare (codesOf x0) ∗ owns (c : Thread nD τ) arg6 fullShare (scalesOf x0) ∗ owns (c : Thread nD τ) arg7 fullShare (quantOf x0) ∗ owns (c : Thread nD τ) arg8 fullShare (colsOf x0) ∗ (∃ d, owns (c : Thread nD τ) arg9 fullShare d)) -∗ K ⟨⟩))
      ⊢ wp frame (wpE (defs₀ (F := F)) Variants.none c none) E (cc0_mxfp8_linear i arg1 harg1 arg2 harg2 arg3 harg3 arg4 harg4 arg5 harg5 arg6 harg6 arg7 harg7 arg8 harg8 arg9 harg9) K := by
  iintro ⟨H0, H1, H2, H3, H4, H5, HS0, HS1, HS2, Hk⟩
  iapply ((kernelRun0_A c i arg1 harg1 arg2 harg2 arg3 harg3 arg4 harg4 arg5 harg5 arg6 harg6 arg7 harg7 arg8 harg8 arg9 harg9 hc x0 x1 x2).2.2.2.2.2 E K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, ⟨%f3, H3⟩, ⟨%f4, H4⟩, ⟨%f5, H5⟩, ⟨%fs0, HS0⟩, ⟨%fs1, HS1⟩, HS2⟩
  iapply Hk
  isplitl [H0]; · iexact H0
  isplitl [H1]; · iexact H1
  isplitl [H2]; · iexact H2
  unfold owns
  isplitl [H3]
  · iexists _; isplitr; swap; · iexact H3
    ipureintro; exact left_product c i arg1 harg1 arg2 harg2 arg3 harg3 arg4 harg4 arg5 harg5 arg6 harg6 arg7 harg7 arg8 harg8 arg9 harg9 x0 x1 x2 hc f3
  isplitl [H4]
  · iexists _; isplitr; swap; · iexact H4
    ipureintro; exact left_codes c i arg1 harg1 arg2 harg2 arg3 harg3 arg4 harg4 arg5 harg5 arg6 harg6 arg7 harg7 arg8 harg8 arg9 harg9 x0 x1 x2 hc f4
  isplitl [H5]
  · iexists _; isplitr; swap; · iexact H5
    ipureintro; exact left_scales c i arg1 harg1 arg2 harg2 arg3 harg3 arg4 harg4 arg5 harg5 arg6 harg6 arg7 harg7 arg8 harg8 arg9 harg9 x0 x1 x2 hc f5
  isplitl [HS0]
  · iexists _; isplitr; swap; · iexact HS0
    ipureintro; exact left_quant c i arg1 harg1 arg2 harg2 arg3 harg3 arg4 harg4 arg5 harg5 arg6 harg6 arg7 harg7 arg8 harg8 arg9 harg9 x0 x1 x2 hc fs0
  isplitl [HS1]
  · iexists _; isplitr; swap; · iexact HS1
    ipureintro; exact left_cols c i arg1 harg1 arg2 harg2 arg3 harg3 arg4 harg4 arg5 harg5 arg6 harg6 arg7 harg7 arg8 harg8 arg9 harg9 x0 x1 x2 hc fs1
  iexact HS2

/-- A LATER POINT: the body leaves the product's block, computed from what the two scratch buffers hold; everything else
    comes back as it was. -/
theorem body_later (c : Dev nD) (i : grid0.Coords) (arg1 : Memref sig .tc .vmem S2048x1152 .bf16) (harg1 : arg1.IsWhole) (arg2 : Memref sig .tc .vmem S768x1152 .fp8e4m3) (harg2 : arg2.IsWhole) (arg3 : Memref sig .tc .vmem S768x36 .i8) (harg3 : arg3.IsWhole) (arg4 : Memref sig .tc .vmem S2048x768 .bf16) (harg4 : arg4.IsWhole) (arg5 : Memref sig .tc .vmem S2048x1152 .fp8e4m3) (harg5 : arg5.IsWhole) (arg6 : Memref sig .tc .vmem S8x256 .f32) (harg6 : arg6.IsWhole) (arg7 : Memref sig .tc .vmem S2048x1152 .bf16) (harg7 : arg7.IsWhole) (arg8 : Memref sig .tc .vmem S2048x128 .f32) (harg8 : arg8.IsWhole) (arg9 : Memref sig .tc .vmem S768x1152 .bf16) (harg9 : arg9.IsWhole)
    (hc : ¬ cond0_0 i) (x0 : Vec F S2048x1152 .bf16) (x1 : Vec F S768x1152 .fp8e4m3) (x2 : Vec F S768x36 .i8)
    (xs0 : Vec F S2048x1152 .bf16) (xs1 : Vec F S2048x128 .f32) (x4 : Vec F S2048x1152 .fp8e4m3) (x5 : Vec F S8x256 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare x4 ∗ owns (c : Thread nD τ) arg6 fullShare x5 ∗ owns (c : Thread nD τ) arg7 fullShare xs0 ∗ owns (c : Thread nD τ) arg8 fullShare xs1 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare (productOf xs0 (weightsOf x1 x2) xs1) ∗ owns (c : Thread nD τ) arg5 fullShare x4 ∗ owns (c : Thread nD τ) arg6 fullShare x5 ∗ owns (c : Thread nD τ) arg7 fullShare xs0 ∗ owns (c : Thread nD τ) arg8 fullShare xs1 ∗ (∃ d, owns (c : Thread nD τ) arg9 fullShare d)) -∗ K ⟨⟩))
      ⊢ wp frame (wpE (defs₀ (F := F)) Variants.none c none) E (cc0_mxfp8_linear i arg1 harg1 arg2 harg2 arg3 harg3 arg4 harg4 arg5 harg5 arg6 harg6 arg7 harg7 arg8 harg8 arg9 harg9) K := by
  iintro ⟨H0, H1, H2, H3, H4, H5, HS0, HS1, HS2, Hk⟩
  iapply ((kernelRun0_B c i arg1 harg1 arg2 harg2 arg3 harg3 arg4 harg4 arg5 harg5 arg6 harg6 arg7 harg7 arg8 harg8 arg9 harg9 hc x0 x1 x2 xs0 xs1).2 x4 x5 E K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, ⟨%f3, H3⟩, H4, H5, HS0, HS1, HS2⟩
  iapply Hk
  isplitl [H0]; · iexact H0
  isplitl [H1]; · iexact H1
  isplitl [H2]; · iexact H2
  isplitl [H3]
  · unfold owns
    iexists _; isplitr; swap; · iexact H3
    ipureintro; exact left_later c i arg1 harg1 arg2 harg2 arg3 harg3 arg4 harg4 arg5 harg5 arg6 harg6 arg7 harg7 arg8 harg8 arg9 harg9 x0 x1 x2 hc xs0 xs1 f3
  isplitl [H4]; · iexact H4
  isplitl [H5]; · iexact H5
  isplitl [HS0]; · iexact HS0
  isplitl [HS1]; · iexact HS1
  iexact HS2

end Cert.KernelIdeal.Gen

end
-- ==== Proof.KernelRun.lean ====
/- The kernel's run: the proof data of its one pipeline, the body's obligation at every grid point, and the launch. -/
module

public import proofs.«01_k».proof.Proof.Contents
public import Idealize.ShloMosaic.Lib.Claim
public import Idealize.ShloMosaic.Lib.Pipeline.TableIdle

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The first grid point. -/
def t₀ : Fin cfg0.N := ⟨0, lt_of_lt_of_eq (by decide) (show 9 = cfg0.N from N_0.symm)⟩

/-- The activations, which every point finds in their one block. -/
def acts (c : Dev nD) : Vec F S2048x1152 .bf16 := iblk m c 0 t₀

/-- What holds between points: at the start the scratch buffers hold anything; after the first point the first two hold the
    codes and the scales the product reads. -/
def inv0 (c : Dev nD) (n : ℕ) : sProp 𝕄 :=
  if n = 0 then Pipeline.ΦA spec0 c
  else iprop(iprop(owns (c : Thread nD τ) scM0_0 fullShare (quantOf (acts m c)) ∗ owns (c : Thread nD τ) scM0_1 fullShare (colsOf (acts m c)) ∗ (∃ d, owns (c : Thread nD τ) scM0_2 fullShare d)) ∗ (∃ r, prngReg c r))

/-- The proof data: each input's buffer at its block, the product's at the point's block of the product, the codes' and the
    scales' at what the first point left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => productOf (quantOf (acts m c)) (weightsOf (iblk m c 1 t) (iblk m c 2 t)) (colsOf (acts m c))
    | ⟨4, _⟩ => codesOf (acts m c)
    | ⟨5, _⟩ => scalesOf (acts m c)
  Φ t := inv0 m c t.val
  q _ := fullShare
  owed _ := 0

/-- The proof data's arrays are the region-entry contents. -/
theorem A_eq (c : Dev nD) (w : Fin cfg0.W) : (dats m 0 c).A w = V m c (Pipeline.arrRef spec0 w) := by
  dsimp only [dats]

/-! What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t
    = productOf (quantOf (acts m c)) (weightsOf (iblk m c 1 t) (iblk m c 2 t)) (colsOf (acts m c)) := by dsimp only [dats]
theorem after0_4 (c : Dev nD) (t : Fin cfg0.N) : (dats m 0 c).after 4 t = codesOf (acts m c) := by dsimp only [dats]
theorem after0_5 (c : Dev nD) (t : Fin cfg0.N) : (dats m 0 c).after 5 t = scalesOf (acts m c) := by dsimp only [dats]

/-! Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! The product's window is stored at every point, the codes' and the scales' at the first only. -/
theorem live0_3 (t : Fin cfg0.N) : cfg0.idle 3 (grid0.coords t) = false := rfl
theorem live0_4 (t : Fin cfg0.N) (h : cond0_0 (grid0.coords t)) : cfg0.idle 4 (grid0.coords t) = false := by
  show (!(k0_cond1 (grid0.coords t) == 1#1)) = false
  rw [show k0_cond1 (grid0.coords t) = 1#1 from h]; rfl
theorem idle0_4 (t : Fin cfg0.N) (h : ¬ cond0_0 (grid0.coords t)) : cfg0.idle 4 (grid0.coords t) = true := by
  show (!(k0_cond1 (grid0.coords t) == 1#1)) = true
  rw [Bool.not_eq_true', beq_eq_false_iff_ne]; exact h
/-- Window 4's buffer has been stored into by every point after the first. -/
theorem fresh0_4 (t : Fin cfg0.N) (h : ¬ t.val = 0) : cfg0.fresh 4 t.val = false := by
  have hN : cfg0.N = 9 := N_0
  have ht := t.isLt
  suffices H : ∀ n, n < 9 → cfg0.fresh 4 n = decide (n = 0) by
    rw [H t.val (by omega)]; simp [h]
  intro n
  induction n with
  | zero => intro _; rfl
  | succ n ih =>
    intro hn
    have hn' : n < cfg0.N := by omega
    rw [Cfg.fresh_succ cfg0 4 n hn', ih (by omega)]
    have hfl : (cfg0.win 4).flush ⟨n, hn'⟩ = false := by
      rw [← Bool.not_eq_true, flush0_4]; show ¬ n % 9 = 8; omega
    rw [hfl]
    by_cases h0 : n = 0
    · rw [live0_4 ⟨n, hn'⟩ ((hcond0_0 _).mpr (by show n % 9 = 0; omega))]; simp
    · simp [h0]
/-- Window 4's buffer holds at a later point what the first point left. -/
theorem before0_4 (c : Dev nD) (t : Fin cfg0.N) (h : ¬ t.val = 0) (d) : (dats m 0 c).before 4 t d = codesOf (acts m c) := by
  rw [Dat.before_out_traj (dats m 0 c) 4 rfl (fun _ _ => rfl) (fun t ht _ _ => by rw [after0_4, after0_4]) t.val t rfl d,
    fresh0_4 t h, if_neg Bool.false_ne_true, after0_4]
theorem live0_5 (t : Fin cfg0.N) (h : cond0_0 (grid0.coords t)) : cfg0.idle 5 (grid0.coords t) = false := by
  show (!(k0_cond1 (grid0.coords t) == 1#1)) = false
  rw [show k0_cond1 (grid0.coords t) = 1#1 from h]; rfl
theorem idle0_5 (t : Fin cfg0.N) (h : ¬ cond0_0 (grid0.coords t)) : cfg0.idle 5 (grid0.coords t) = true := by
  show (!(k0_cond1 (grid0.coords t) == 1#1)) = true
  rw [Bool.not_eq_true', beq_eq_false_iff_ne]; exact h
/-- Window 5's buffer has been stored into by every point after the first. -/
theorem fresh0_5 (t : Fin cfg0.N) (h : ¬ t.val = 0) : cfg0.fresh 5 t.val = false := by
  have hN : cfg0.N = 9 := N_0
  have ht := t.isLt
  suffices H : ∀ n, n < 9 → cfg0.fresh 5 n = decide (n = 0) by
    rw [H t.val (by omega)]; simp [h]
  intro n
  induction n with
  | zero => intro _; rfl
  | succ n ih =>
    intro hn
    have hn' : n < cfg0.N := by omega
    rw [Cfg.fresh_succ cfg0 5 n hn', ih (by omega)]
    have hfl : (cfg0.win 5).flush ⟨n, hn'⟩ = false := by
      rw [← Bool.not_eq_true, flush0_5]; show ¬ n % 9 = 8; omega
    rw [hfl]
    by_cases h0 : n = 0
    · rw [live0_5 ⟨n, hn'⟩ ((hcond0_0 _).mpr (by show n % 9 = 0; omega))]; simp
    · simp [h0]
/-- Window 5's buffer holds at a later point what the first point left. -/
theorem before0_5 (c : Dev nD) (t : Fin cfg0.N) (h : ¬ t.val = 0) (d) : (dats m 0 c).before 5 t d = scalesOf (acts m c) := by
  rw [Dat.before_out_traj (dats m 0 c) 5 rfl (fun _ _ => rfl) (fun t ht _ _ => by rw [after0_5, after0_5]) t.val t rfl d,
    fresh0_5 t h, if_neg Bool.false_ne_true, after0_5]
/-! ## The body obligation, at a generic point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- A window left at what it held is left as the obligation asks. -/
theorem leaves_idle (c : Dev nD) (w : Fin cfg0.W) (t : Fin cfg0.N) (hi : cfg0.idle w (grid0.coords t) = true)
    (X : (cfg0.win w).block.Idx → Elt F (cfg0.win w).elt) (hb : ∀ d, (dats m 0 c).before w t d = X) (ha : (dats m 0 c).after w t = X) :
    owns (c : Thread nD τ) ((cfg0.win w).stage (cfg0.slots t w)) fullShare X ⊢ (dats m 0 c).leavesExact w t := by
  unfold Dat.leavesExact
  rw [show cfg0.idle w (cfg0.grid.coords t) = true from hi]
  cases (cfg0.win w).flush t
  · iintro H
    iexists X; rw [hb]; iexact H
  · rw [ha]

set_option maxHeartbeats 1600000 in
/-- The body at any point: the first point fills the scratch buffers and stores every output; a later one finds them as the
    first left them and stores its block of the product. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.castSucc = inv0 m c t.val from rfl,
    show (dats m 0 c).Φ t.succ = inv0 m c (t.val + 1) from rfl]
  rw [show inv0 m c (t.val + 1) = iprop(iprop(owns (c : Thread nD τ) scM0_0 fullShare (quantOf (acts m c)) ∗ owns (c : Thread nD τ) scM0_1 fullShare (colsOf (acts m c)) ∗ (∃ d, owns (c : Thread nD τ) scM0_2 fullShare d)) ∗ (∃ r, prngReg c r)) from if_neg (Nat.succ_ne_zero _)]
  have hN : t.val < 9 := lt_of_lt_of_eq t.isLt (show cfg0.N = 9 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [live0_3 t], after0_3]
  by_cases h0 : t.val = 0
  · have hc : cond0_0 (grid0.coords t) := (hcond0_0 t).mpr (by omega)
    have ht : t = t₀ := Fin.ext h0
    rw [show (dats m 0 c).leavesExact 4 t = owns (c : Thread nD τ) (ms0_4 t) fullShare ((dats m 0 c).after 4 t) from by
      unfold Dat.leavesExact; rw [live0_4 t hc], after0_4]
    rw [show (dats m 0 c).leavesExact 5 t = owns (c : Thread nD τ) (ms0_5 t) fullShare ((dats m 0 c).after 5 t) from by
      unfold Dat.leavesExact; rw [live0_5 t hc], after0_5]
    rw [show inv0 m c t.val = Pipeline.ΦA spec0 c from if_pos h0, PhiA0_eq]
    rw [show acts m c = iblk m c 0 t from by rw [ht]; rfl]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply (body_first c (grid0.coords t) _ _ _ _ _ _ _ _ _ _ _ _ _ _ _ _ _ _ hc (iblk m c 0 t) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc : ¬ cond0_0 (grid0.coords t) := fun h => h0 (by have := (hcond0_0 t).mp h; omega)
    rw [show inv0 m c t.val = _ from if_neg h0]
    simp only [before0_4 m c t h0, before0_5 m c t h0]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply (body_later c (grid0.coords t) _ _ _ _ _ _ _ _ _ _ _ _ _ _ _ _ _ _ hc (iblk m c 0 t) (iblk m c 1 t) (iblk m c 2 t) (quantOf (acts m c)) (colsOf (acts m c)) (codesOf (acts m c)) (scalesOf (acts m c)) Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    isplitl [HS2]; · iexact HS2
    iintro ⟨H0, H1, H2, H3, H4, H5, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]
    · iapply (leaves_idle m c 4 t (idle0_4 t hc) _ (before0_4 m c t h0) (after0_4 m c t)); iexact H4
    iapply (leaves_idle m c 5 t (idle0_5 t hc) _ (before0_5 m c t h0) (after0_5 m c t)); iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The invariant starts as the region's own. -/
theorem inv_first (c : Dev nD) : (Pipeline.ΦA spec0 c : sProp 𝕄) ⊢ (dats m 0 c).Φ 0 := by
  rw [show (dats m 0 c).Φ 0 = inv0 m c 0 from rfl, show inv0 m c 0 = Pipeline.ΦA spec0 c from if_pos rfl]

/-- The invariant ends as the region's own, the scratch buffers' contents forgotten. -/
theorem inv_last (c : Dev nD) : (dats m 0 c).Φ (Fin.last cfg0.N) ⊢ (Pipeline.ΦA spec0 c : sProp 𝕄) := by
  rw [show (dats m 0 c).Φ (Fin.last cfg0.N) = inv0 m c cfg0.N from rfl,
    show inv0 m c cfg0.N = iprop(iprop(owns (c : Thread nD τ) scM0_0 fullShare (quantOf (acts m c)) ∗ owns (c : Thread nD τ) scM0_1 fullShare (colsOf (acts m c)) ∗ (∃ d, owns (c : Thread nD τ) scM0_2 fullShare d)) ∗ (∃ r, prngReg c r))
      from if_neg (show ¬ cfg0.N = 0 by rw [show cfg0.N = 9 from N_0]; decide), PhiA0_eq]
  iintro ⟨⟨HS0, HS1, HS2⟩, Hg⟩
  isplitl [HS0 HS1 HS2]
  · isplitl [HS0]; · iexists _; iexact HS0
    isplitl [HS1]; · iexists _; iexact HS1
    iexact HS2
  iexact Hg

set_option backward.isDefEq.respectTransparency.types false in
/-- THE LAUNCH: every execution ends with every array at what the proof data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => inv_first m c) (hout := fun c => inv_last m c)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- THE FRAME: every execution ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.Same.lean ====
/- The kernel at words and the ideal kernel read at words are one program, so the frame, which is proved of the ideal
   kernel's text at every reading of its floats, is also the kernel's. -/
module

public import proofs.«01_k».proof.Proof.Gen.Kernel
public import proofs.«01_k».proof.Proof.KernelRun

@[expose] public section

set_option maxRecDepth 100000
set_option maxHeartbeats 4000000

noncomputable section

namespace Cert.Kernel.Gen

open Idealize.ShloMosaic Idealize.SL.Sem

variable {F : FTy → Type} [FloatOps F]

/-- The two texts' bodies are the same program. -/
theorem body_same : @Cert.Kernel.cc0_mxfp8_linear F _ _ = @Cert.KernelIdeal.cc0_mxfp8_linear F _ _ := rfl

/-- The two texts' body tables are the same. -/
theorem defs₀_same : Cert.Kernel.defs₀ (F := F) = Cert.KernelIdeal.defs₀ (F := F) := by
  refine congrArg Defs.onTc (funext fun l => funext fun x => ?_)
  match l, x with
  | 0, (t, s) => rfl

/-- So are the tables with the pipeline's own entries. -/
theorem defs_same : Cert.Kernel.defs (F := F) = Cert.KernelIdeal.defs (F := F) :=
  congrArg (Pipeline.defs (Cert.Kernel.pcfgs (F := F))) defs₀_same

/-- THE FRAME of the kernel: every execution ends with the argument arrays unchanged and every counter at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_same]
  exact Cert.KernelIdeal.Gen.frame (F := F) m ρ

end Cert.Kernel.Gen

end
-- ==== Proof.Powers.lean ====
/- The powers of two that the kernel writes as bit patterns and the reference as powers, and the bisection that reads a
   value's exponent. Nothing here mentions a program. -/
module

public import Idealize.ShloMosaic.Lib.Pointwise
public import Idealize.ShloMosaic.Lib.IdealHost

@[expose] public section

set_option maxRecDepth 16384

noncomputable section

namespace Cert.Powers

open Idealize.ShloMosaic

/-- What the pattern with exponent field `k` and nothing else denotes: zero, a power of two, or infinity. -/
def pow2 (k : ℕ) : EReal :=
  if k = 0 then 0 else if 255 ≤ k then ⊤ else (((2 : ℝ) ^ ((k : ℤ) - 127) : ℝ) : EReal)

theorem pow2_zero : pow2 0 = 0 := by simp [pow2]

theorem pow2_of_lt {k : ℕ} (h0 : 0 < k) (h1 : k < 255) : pow2 k = (((2 : ℝ) ^ ((k : ℤ) - 127) : ℝ) : EReal) := by
  simp [pow2, h0.ne', h1]

theorem pow2_top {k : ℕ} (h : 255 ≤ k) : pow2 k = ⊤ := by
  have : k ≠ 0 := by omega
  simp [pow2, this, h]

theorem pow2_nonneg (k : ℕ) : 0 ≤ pow2 k := by
  unfold pow2
  split_ifs
  · exact le_rfl
  · exact le_top
  · exact_mod_cast (zpow_nonneg (by norm_num) _ : (0 : ℝ) ≤ (2 : ℝ) ^ ((k : ℤ) - 127))

/-- A larger field denotes no smaller a value. -/
theorem pow2_mono {j k : ℕ} (h : j ≤ k) : pow2 j ≤ pow2 k := by
  rcases Nat.eq_zero_or_pos j with rfl | hj
  · rw [pow2_zero]; exact pow2_nonneg k
  by_cases hk : 255 ≤ k
  · rw [pow2_top hk]; exact le_top
  rw [pow2_of_lt hj (by omega), pow2_of_lt (by omega) (by omega)]
  rw [EReal.coe_le_coe_iff]
  exact zpow_le_zpow_right₀ (by norm_num) (by omega)

/-- The pattern a field shifted into place makes. -/
theorem ofBits_shl (f : BitVec 32) (h : f.toNat < 256) :
    FloatOps.ofBits (F := Ideal) .f32 (IntOp.shli .vector f 23#32) = pow2 f.toNat := by
  have hs : IntOp.shli .vector f 23#32 = f <<< 23 := by simp [IntOp.shli]
  have hn : (f <<< 23).toNat = f.toNat * 8388608 := by
    rw [BitVec.toNat_shiftLeft, Nat.shiftLeft_eq]; omega
  rw [hs]
  show Ideal.ieee 8 23 (f <<< 23) = _
  have hsign : (f <<< 23).extractLsb' (8 + 23) 1 = 0#1 := by
    apply BitVec.eq_of_toNat_eq
    rw [BitVec.extractLsb'_toNat, hn, Nat.shiftRight_eq_div_pow]
    simp; omega
  have hex : ((f <<< 23).extractLsb' 23 8).toNat = f.toNat := by
    rw [BitVec.extractLsb'_toNat, hn, Nat.shiftRight_eq_div_pow]
    omega
  have hfr : ((f <<< 23).extractLsb' 0 23).toNat = 0 := by
    rw [BitVec.extractLsb'_toNat, hn, Nat.shiftRight_eq_div_pow]
    omega
  unfold Ideal.ieee pow2
  simp only [hsign, hex, hfr]
  have hb : ((0#1 == 1#1) = true) = False := by decide
  have h8 : (2 : ℕ) ^ 8 - 1 = 255 := by norm_num
  rw [h8]
  simp only [hb, if_false, if_true]
  by_cases h0 : f.toNat = 0
  · rw [h0]; simp
  by_cases h1 : f.toNat = 255
  · rw [h1]; simp
  have h2 : ¬ 255 ≤ f.toNat := by omega
  simp only [h0, h1, h2, if_false]
  rw [EReal.coe_eq_coe_iff]
  have e : ((f.toNat : ℤ) - (2 ^ (8 - 1) - 1) - ((23 : ℕ) : ℤ)) = ((f.toNat : ℤ) - 127) + (-23) := by
    norm_num; ring
  rw [e, zpow_add₀ (by norm_num)]
  have e' : ((2 ^ 23 + 0 : ℕ) : ℝ) * (2 : ℝ) ^ (-23 : ℤ) = 1 := by norm_num
  rw [one_mul, mul_comm ((2 : ℝ) ^ ((f.toNat : ℤ) - 127)), ← mul_assoc, e', one_mul]

/-- A power of two as the reference writes it, of a whole exponent. -/
def powerOfTwo (e : BitVec 32) : EReal :=
  Scalar.select (IntOp.cmpi .slt e 4294967170#32) (FloatOps.ofBits (F := Ideal) .f32 0x00000000#32)
    (Scalar.select (IntOp.cmpi .sgt e 127#32) (FloatOps.ofBits (F := Ideal) .f32 0x7F800000#32)
      (FloatOps.hostPowf (F := Ideal) (φ := .f32) (FloatOps.ofBits (F := Ideal) .f32 0x40000000#32) (FloatOps.sitofp (F := Ideal) .f32 e)))

/-- The two agree: a power as the reference writes it is the pattern with the exponent, plus 127, as its field. -/
theorem powerOfTwo_eq (e : BitVec 32) (k : ℕ) (he : e.toInt = (k : ℤ) - 127) (hk : k ≤ 255) : powerOfTwo e = pow2 k := by
  have two : FloatOps.ofBits (F := Ideal) .f32 0x40000000#32 = ((2 : ℝ) : EReal) := by
    show Ideal.ofBits .f32 0x40000000#32 = _
    simp [Ideal.ofBits, Ideal.ieee, -EReal.coe_mul]; norm_num
  have inf : FloatOps.ofBits (F := Ideal) .f32 0x7F800000#32 = ⊤ := by
    show Ideal.ofBits .f32 0x7F800000#32 = _
    simp [Ideal.ofBits, Ideal.ieee]
  unfold powerOfTwo Scalar.select IntOp.cmpi
  have l : e.slt 4294967170#32 = decide (k = 0) := by
    rw [BitVec.slt_eq_decide, he]
    have : (4294967170#32).toInt = -126 := by decide
    rw [this]; congr 1; apply propext; omega
  have g : (127#32).slt e = decide (k = 255) := by
    rw [BitVec.slt_eq_decide, he]
    have : (127#32).toInt = 127 := by decide
    rw [this]; congr 1; apply propext; omega
  simp only [l, g, inf, two]
  by_cases h0 : k = 0
  · subst h0; simp [pow2]
  by_cases h1 : k = 255
  · subst h1; simp [pow2]
  rw [pow2_of_lt (by omega) (by omega)]
  simp only [h0, h1]
  show Ideal.pow ((2 : ℝ) : EReal) (((e.toInt : ℝ)) : EReal) = _
  show ((Real.rpow 2 (e.toInt : ℝ) : ℝ) : EReal) = _
  rw [he]
  congr 1
  exact Real.rpow_intCast 2 _

/-! ## The bisection -/

/-- One step: `b` is added to the field when the value is no smaller than what the sum denotes. -/
def step (v : EReal) (f b : BitVec 32) : BitVec 32 :=
  Scalar.select (FloatOps.cmpf (F := Ideal) (φ := .f32) .olt v (FloatOps.ofBits (F := Ideal) .f32 (IntOp.shli .vector (IntOp.addi f b) 23#32)))
    f (IntOp.addi f b)

/-- What is known of the field when `w` more values are open: the value is between the two patterns. -/
structure Between (v : EReal) (f : BitVec 32) (w : ℕ) : Prop where
  low : f.toNat = 0 ∨ pow2 f.toNat ≤ v
  high : v < pow2 (f.toNat + w)
  fits : f.toNat + w ≤ 256

/-- A step halves what is open. -/
theorem Between.step {v : EReal} {f b : BitVec 32} {w : ℕ} (h : Between v f (w + w)) (hb : b.toNat = w) (hw : 0 < w) :
    Between v (step v f b) w := by
  have hf := h.fits
  have hn : (IntOp.addi f b).toNat = f.toNat + w := by
    show (f + b).toNat = _
    rw [BitVec.toNat_add, hb]; omega
  have hp : FloatOps.ofBits (F := Ideal) .f32 (IntOp.shli .vector (IntOp.addi f b) 23#32) = pow2 (f.toNat + w) := by
    rw [ofBits_shl _ (by omega), hn]
  by_cases c : v < pow2 (f.toNat + w)
  · have e : Powers.step v f b = f := by
      unfold Powers.step
      rw [hp]
      show (if BitVec.ofBool (decide (v < pow2 (f.toNat + w))) = 1#1 then _ else _) = _
      simp [c]
    rw [e]
    exact ⟨h.low, c, by omega⟩
  · have e : Powers.step v f b = IntOp.addi f b := by
      unfold Powers.step
      rw [hp]
      show (if BitVec.ofBool (decide (v < pow2 (f.toNat + w))) = 1#1 then _ else _) = _
      simp [c]
    rw [e]
    refine ⟨.inr ?_, ?_, ?_⟩
    · rw [hn]; exact not_lt.mp c
    · rw [hn, Nat.add_assoc]; exact h.high
    · omega

/-- The field the first six steps reach. -/
def steps6 (v : EReal) : BitVec 32 :=
  step v (step v (step v (step v (step v (step v 0#32 128#32) 64#32) 32#32) 16#32) 8#32) 4#32

/-- The field of a value: all eight steps. -/
def field (v : EReal) : BitVec 32 := step v (step v (steps6 v) 2#32) 1#32

/-- The eight steps find the field. -/
theorem field_between {v : EReal} (h : v < ⊤) : Between v (field v) 1 := by
  have h0 : Between v 0#32 (128 + 128) := ⟨.inl rfl, by rw [pow2_top (by simp)]; exact h, by simp⟩
  exact (((((((h0.step (w := 128) rfl (by norm_num)).step (w := 64) rfl (by norm_num)).step (w := 32) rfl (by norm_num)).step
    (w := 16) rfl (by norm_num)).step (w := 8) rfl (by norm_num)).step (w := 4) rfl (by norm_num)).step (w := 2) rfl
    (by norm_num)).step (w := 1) rfl (by norm_num)

/-- The exponent that a field stands for, zero of the field zero. -/
def exponentOf (f : BitVec 32) : BitVec 32 := Scalar.select (IntOp.cmpi .eq f 0#32) 0#32 (IntOp.subi f 126#32)

/-- A value below `2 ^ 126` has a field below 253. -/
theorem field_lt {v : EReal} (h : v < pow2 253) : (field v).toNat < 253 := by
  have b := field_between (lt_of_lt_of_le h le_top)
  rcases b.low with h0 | h1
  · omega
  · by_contra hc
    exact absurd (lt_of_lt_of_le h ((pow2_mono (by omega)).trans h1)) (lt_irrefl _)

/-- The exponent of a field, as a number. -/
theorem exponentOf_toInt {f : BitVec 32} (h : f.toNat < 253) :
    (exponentOf f).toInt = if f.toNat = 0 then 0 else (f.toNat : ℤ) - 126 := by
  unfold exponentOf Scalar.select IntOp.cmpi IntOp.subi
  by_cases h0 : f.toNat = 0
  · have : f = 0#32 := BitVec.eq_of_toNat_eq h0
    subst this; rfl
  · have : f ≠ 0#32 := fun e => h0 (by rw [e]; rfl)
    have hb : BitVec.ofBool (f == 0#32) = 0#1 := by rw [beq_eq_false_iff_ne.mpr this]; rfl
    rw [hb, if_neg h0]
    rw [if_neg (by decide), BitVec.toInt_sub]
    have e1 : f.toInt = f.toNat := by rw [BitVec.toInt_eq_toNat_of_lt (by omega)]
    have e2 : (126#32).toInt = 126 := by decide
    rw [e1, e2]
    rw [Int.bmod_def]; omega

/-- The scale the kernel writes is the power of two of the exponent. -/
theorem scale_eq {v : EReal} (h : v < pow2 253) :
    FloatOps.ofBits (F := Ideal) .f32 (IntOp.shli .vector (IntOp.addi 127#32 (exponentOf (field v))) 23#32)
      = powerOfTwo (exponentOf (field v)) := by
  have hl := field_lt h
  have hi := exponentOf_toInt hl
  set e := exponentOf (field v)
  have hr : -126 < e.toInt ∧ e.toInt < 127 := by
    rw [hi]; split_ifs <;> constructor <;> omega
  have hn : (IntOp.addi 127#32 e).toNat = (e.toInt + 127).toNat := by
    show (127#32 + e).toNat = _
    rw [BitVec.toNat_add]
    have := BitVec.toInt_eq_toNat_cond e
    have h127 : (127#32).toNat = 127 := rfl
    rw [h127]
    split_ifs at this <;> omega
  rw [ofBits_shl _ (by omega), hn, powerOfTwo_eq e (e.toInt + 127).toNat (by omega) (by omega)]

/-- The inverse scale the kernel writes is the power of two of minus the exponent. -/
theorem inv_eq {v : EReal} (h : v < pow2 253) :
    FloatOps.ofBits (F := Ideal) .f32 (IntOp.shli .vector (IntOp.subi 127#32 (exponentOf (field v))) 23#32)
      = powerOfTwo (-(exponentOf (field v))) := by
  have hl := field_lt h
  have hi := exponentOf_toInt hl
  set e := exponentOf (field v)
  have hr : -126 < e.toInt ∧ e.toInt < 127 := by
    rw [hi]; split_ifs <;> constructor <;> omega
  have hn : (IntOp.subi 127#32 e).toNat = (127 - e.toInt).toNat := by
    show (127#32 - e).toNat = _
    rw [BitVec.toNat_sub]
    have := BitVec.toInt_eq_toNat_cond e
    have h127 : (127#32).toNat = 127 := rfl
    rw [h127]
    split_ifs at this <;> omega
  have hm : (-e).toInt = -e.toInt := by
    rw [BitVec.toInt_neg, Int.bmod_def]; omega
  rw [ofBits_shl _ (by omega), hn, powerOfTwo_eq (-e) (127 - e.toInt).toNat (by omega) (by omega)]

/-- The scale a byte stands for, as the kernel and as the reference write it. -/
theorem byte_eq (b : BitVec 8) :
    FloatOps.ofBits (F := Ideal) .f32 (IntOp.shli .vector (b.setWidth 32) 23#32)
      = powerOfTwo (IntOp.subi (b.setWidth 32) 127#32) := by
  have hb := b.isLt
  have hn : (b.setWidth 32).toNat = b.toNat := by rw [BitVec.toNat_setWidth]; omega
  have hi : (IntOp.subi (b.setWidth 32) 127#32).toInt = (b.toNat : ℤ) - 127 := by
    show (b.setWidth 32 - 127#32).toInt = _
    rw [BitVec.toInt_sub]
    have e1 : (b.setWidth 32).toInt = b.toNat := by rw [BitVec.toInt_eq_toNat_of_lt (by omega), hn]
    have e2 : (127#32).toInt = 127 := by decide
    rw [e1, e2, Int.bmod_def]; omega
  rw [ofBits_shl _ (by omega), hn, powerOfTwo_eq _ b.toNat hi (by omega)]

/-- Counting the powers of two that a value reaches gives its field. -/
theorem count_eq {v : EReal} (h : v < ⊤) :
    (Finset.univ.filter fun k : Fin 254 => pow2 (k.val + 1) ≤ v).card = (field v).toNat := by
  have b := field_between h
  have hf : (field v).toNat ≤ 254 := by
    have := b.fits
    by_contra hc
    have e : (field v).toNat = 255 := by omega
    rcases b.low with h0 | h1
    · omega
    · rw [e, pow2_top le_rfl] at h1; exact absurd h (not_lt.mpr h1)
  have key : (Finset.univ.filter fun k : Fin 254 => pow2 (k.val + 1) ≤ v)
      = Finset.univ.filter fun k : Fin 254 => k.val < (field v).toNat := by
    apply Finset.filter_congr
    intro k _
    constructor
    · intro hk
      by_contra hc
      exact absurd (lt_of_lt_of_le b.high ((pow2_mono (by omega)).trans hk)) (lt_irrefl _)
    · intro hk
      rcases b.low with h0 | h1
      · omega
      · exact (pow2_mono (by omega)).trans h1
  rw [key]
  rw [Fin.card_filter_val_lt, min_eq_right hf]

end Cert.Powers
-- ==== Proof.Spec.lean ====
/- What is computed, row by row, over the extended reals: the exponent a row of activations is scaled by, its codes, its
   scale, a dequantised weight, and an element of the product. Nothing here mentions a program. -/
module

public import proofs.«01_k».proof.Proof.Powers

@[expose] public section

set_option maxRecDepth 16384

noncomputable section

namespace Cert.Spec

open Idealize.ShloMosaic Cert.Powers

/-- The greatest magnitude of a row. -/
def mag (row : Fin 1152 → EReal) : EReal := Finset.univ.fold max ⊥ fun k => max (row k) (-(row k))

/-- That, over the greatest code: times the single-precision number nearest to 1/448. -/
def level (row : Fin 1152 → EReal) : EReal := mag row * Ideal.ofBits .f32 0x3B124925#32

/-- The exponent the row is scaled by. -/
def expo (row : Fin 1152 → EReal) : BitVec 32 := exponentOf (field (level row))

/-- The row's scale. -/
def scale (row : Fin 1152 → EReal) : EReal := powerOfTwo (expo row)

/-- The code of the row's element `k`. -/
def code (row : Fin 1152 → EReal) (k : Fin 1152) : EReal :=
  min (Ideal.ofBits .f32 0x43E00000#32) (max (Ideal.ofBits .f32 0xC3E00000#32) (row k * powerOfTwo (-(expo row))))

/-- A weight, from its code and its group's byte. -/
def weight (w : EReal) (b : BitVec 8) : EReal := w * powerOfTwo (IntOp.subi (b.setWidth 32) 127#32)

/-- The product of a row of activations and a row of weights. -/
def product (row wrow : Fin 1152 → EReal) (bytes : Fin 36 → BitVec 8) : EReal :=
  (∑ k : Fin 1152, code row k * weight (wrow k) (bytes ⟨k.val / 32, by omega⟩)) * scale row

/-- A row whose level has an exponent the kernel's patterns can hold. -/
def Small (row : Fin 1152 → EReal) : Prop := level row < pow2 253

theorem mag_le_iff (row : Fin 1152 → EReal) (z : EReal) : mag row ≤ z ↔ ∀ k, row k ≤ z ∧ -(row k) ≤ z := by
  unfold mag
  rw [Finset.fold_max_le]
  simp

theorem ofBits_ninf : Ideal.ofBits .f32 0xFF800000#32 = ⊥ := by
  simp [Ideal.ofBits, Ideal.ieee]

/-- A small row's scale is no negative number. -/
theorem scale_nonneg {row : Fin 1152 → EReal} (h : Small row) : 0 ≤ scale row := by
  unfold scale expo
  rw [← scale_eq h]
  have hl := field_lt h
  have hi := exponentOf_toInt hl
  set e := exponentOf (field (level row))
  have hr : -126 < e.toInt ∧ e.toInt < 127 := by
    rw [hi]; split_ifs <;> constructor <;> omega
  have hn : (IntOp.addi 127#32 e).toNat < 256 := by
    show (127#32 + e).toNat < 256
    rw [BitVec.toNat_add]
    have := BitVec.toInt_eq_toNat_cond e
    have h127 : (127#32).toNat = 127 := rfl
    rw [h127]
    split_ifs at this <;> omega
  rw [ofBits_shl _ hn]
  exact pow2_nonneg _

/-- A row is small when no element's magnitude exceeds the greatest of the narrow format. -/
theorem small_of_le (row : Fin 1152 → EReal) (h : ∀ k, max (row k) (-(row k)) ≤ Ideal.ofBits .f32 0x7F7F0000#32) : Small row := by
  have hm : mag row ≤ Ideal.ofBits .f32 0x7F7F0000#32 := by
    rw [mag_le_iff]
    exact fun k => max_le_iff.mp (h k)
  have hc : Ideal.ofBits .f32 0x3B124925#32 = ((9586981 * 2 ^ (-32 : ℤ) : ℝ) : EReal) := by
    simp [Ideal.ofBits, Ideal.ieee, -EReal.coe_mul]
  have hx : Ideal.ofBits .f32 0x7F7F0000#32 = ((255 * 2 ^ (120 : ℤ) : ℝ) : EReal) := by
    simp [Ideal.ofBits, Ideal.ieee, -EReal.coe_mul]; norm_num
  have h0 : (0 : EReal) ≤ Ideal.ofBits .f32 0x3B124925#32 := by
    rw [hc]
    exact_mod_cast (by positivity : (0 : ℝ) ≤ 9586981 * 2 ^ (-32 : ℤ))
  have hl : level row ≤ Ideal.ofBits .f32 0x7F7F0000#32 * Ideal.ofBits .f32 0x3B124925#32 :=
    mul_le_mul_of_nonneg_right hm h0
  refine lt_of_le_of_lt hl ?_
  rw [hx, hc, ← EReal.coe_mul, pow2_of_lt (by norm_num) (by norm_num), EReal.coe_lt_coe_iff]
  norm_num

end Cert.Spec
-- ==== Proof.KernelValues.lean ====
/- What each buffer of the kernel holds, element by element over the extended reals, in terms of the rows. -/
module

public import proofs.«01_k».proof.Proof.Contents
public import proofs.«01_k».proof.Proof.Spec
public import Idealize.ShloMosaic.Lib.Pipeline.ValueKit.Tiles

@[expose] public section

set_option maxRecDepth 16384

noncomputable section

namespace Cert.KernelIdeal.Gen

open Idealize.ShloMosaic Idealize.ShloMosaic.TcCoe Cert.Powers

/-! ## Indices -/

/-- The index that a rectangle places an index of its own at. -/
theorem emb_ix2 {n m p q o0 o1 : ℕ}
    (inb : ∀ a : Fin (⟨2, ![n, m]⟩ : Shape).rank, (![o0, o1] : Fin 2 → ℕ) a + (![p, q] : Fin 2 → ℕ) a ≤ (⟨2, ![n, m]⟩ : Shape).size a)
    (a : Fin p) (b : Fin q) (h0 : o0 + a.val < n) (h1 : o1 + b.val < m) :
    (Rect.unit (s := ⟨2, ![n, m]⟩) ![o0, o1] ![p, q] inb).emb (ix2 a b) = ix2 ⟨o0 + a.val, h0⟩ ⟨o1 + b.val, h1⟩ := by
  funext i
  match i with
  | ⟨0, _⟩ => exact Fin.ext (Rect.idx_unit_val ..)
  | ⟨1, _⟩ => exact Fin.ext (Rect.idx_unit_val ..)

/-- A load from a rectangle, at an index. -/
theorem ld_ix2 {n m p q o0 o1 : ℕ} {e : EltTy} (x : (⟨2, ![n, m]⟩ : Shape).Idx → Elt Ideal e)
    (inb : ∀ a : Fin (⟨2, ![n, m]⟩ : Shape).rank, (![o0, o1] : Fin 2 → ℕ) a + (![p, q] : Fin 2 → ℕ) a ≤ (⟨2, ![n, m]⟩ : Shape).size a)
    (a : Fin p) (b : Fin q) (h0 : o0 + a.val < n) (h1 : o1 + b.val < m) :
    View.ld x (Rect.unit (s := ⟨2, ![n, m]⟩) ![o0, o1] ![p, q] inb) (ix2 a b) = x (ix2 ⟨o0 + a.val, h0⟩ ⟨o1 + b.val, h1⟩) := by
  rw [← emb_ix2 inb a b h0 h1]
  rfl

/-- A tile's element. -/
theorem xtile_apply (x : Vec Ideal S2048x1152 .bf16) (r : Fin 16) (j : Fin 9) (a b : Fin 128) :
    xtile x r j (ix2 a b) = x (ix2 ⟨128 * r.val + a.val, by omega⟩ ⟨128 * j.val + b.val, by omega⟩) :=
  ld_ix2 (n := 2048) (m := 1152) (p := 128) (q := 128) (e := .bf16) x (inb_tile r j) a b _ _

/-! ## One block of 128 rows -/

/-- Row `a` of block `r`. -/
abbrev rowOf (x : Vec Ideal S2048x1152 .bf16) (i : Fin 2048) : Fin 1152 → EReal := fun k => x (ix2 i k)

/-- The level of each row of a block: the greatest magnitude over the nine chunks is the row's. -/
theorem level_apply (x : Vec Ideal S2048x1152 .bf16) (r : Fin 16) (a l : Fin 128) :
    k0_pay4 (rowMax (xtile x r)) (ix2 a l) = Spec.level (rowOf x ⟨128 * r.val + a.val, by omega⟩) := by
  pointwise [k0_pay4, rowMax, k0_pay3]
  unfold Spec.level
  congr 1
  rw [Spec.ofBits_ninf]
  apply eq_of_forall_ge_iff
  intro z
  rw [Spec.mag_le_iff, Finset.fold_max_le]
  simp only [bot_le, true_and, Finset.mem_univ, forall_true_left, max_le_iff, Ideal.absf_def]
  constructor
  · intro h k
    have conv : ∀ q : Fin 9, q.val = k.val / 128 →
        (xtile x r q (ix2 a ⟨k.val % 128, by omega⟩) ≤ z ∧ -(xtile x r q (ix2 a ⟨k.val % 128, by omega⟩)) ≤ z) →
        (rowOf x ⟨128 * r.val + a.val, by omega⟩ k ≤ z ∧ -(rowOf x ⟨128 * r.val + a.val, by omega⟩ k) ≤ z) := by
      intro q hq hh
      rw [xtile_apply] at hh
      have e : (⟨128 * q.val + (⟨k.val % 128, by omega⟩ : Fin 128).val, by omega⟩ : Fin 1152) = k :=
        Fin.ext (by show 128 * q.val + k.val % 128 = k.val; omega)
      rw [e] at hh
      exact hh
    obtain ⟨⟨⟨⟨⟨⟨⟨⟨h0, h1⟩, h2⟩, h3⟩, h4⟩, h5⟩, h6⟩, h7⟩, h8⟩ := h ⟨k.val % 128, by omega⟩
    have h9 : k.val / 128 < 9 := by omega
    generalize k.val / 128 = q at h9 conv
    interval_cases q
    exacts [conv 0 rfl h0, conv 1 rfl h1, conv 2 rfl h2, conv 3 rfl h3, conv 4 rfl h4, conv 5 rfl h5, conv 6 rfl h6,
      conv 7 rfl h7, conv 8 rfl h8]
  · intro h k
    have conv : ∀ q : Fin 9, xtile x r q (ix2 a k) ≤ z ∧ -(xtile x r q (ix2 a k)) ≤ z := by
      intro q
      rw [xtile_apply]
      exact h _
    exact ⟨⟨⟨⟨⟨⟨⟨⟨conv 0, conv 1⟩, conv 2⟩, conv 3⟩, conv 4⟩, conv 5⟩, conv 6⟩, conv 7⟩, conv 8⟩

/-- The bisection of the block is the bisection of each of its elements. -/
theorem pay5_apply (v : FVec Ideal S128x1 .f32) (i : S128x128.Idx) : k0_pay5 v i = steps6 (k0_pay4 v i) := rfl

/-- The exponent of each element. -/
theorem pay6_apply (v : FVec Ideal S128x1 .f32) (i : S128x128.Idx) :
    k0_pay6 (k0_pay4 v) (k0_pay5 v) i = exponentOf (field (k0_pay4 v i)) := rfl

/-- The scale of each element. -/
theorem pay7_apply (v : FVec Ideal S128x1 .f32) (i : S128x128.Idx) (h : k0_pay4 v i < pow2 253) :
    k0_pay7 (k0_pay4 v) (k0_pay5 v) i = powerOfTwo (exponentOf (field (k0_pay4 v i))) := scale_eq h

/-- The scale's reciprocal, of each element. -/
theorem pay8_apply (v : FVec Ideal S128x1 .f32) (i : S128x128.Idx) (h : k0_pay4 v i < pow2 253) :
    k0_pay8 (k0_pay4 v) (k0_pay5 v) i = powerOfTwo (-(exponentOf (field (k0_pay4 v i)))) := inv_eq h

section rows
variable (x : Vec Ideal S2048x1152 .bf16) (hx : ∀ i, Spec.Small (rowOf x i))
include hx

/-- A block's scales. -/
theorem rowScale_apply (r : Fin 16) (a l : Fin 128) :
    k0_pay7 (k0_pay4 (rowMax (xtile x r))) (k0_pay5 (rowMax (xtile x r))) (ix2 a l)
      = Spec.scale (rowOf x ⟨128 * r.val + a.val, by omega⟩) := by
  rw [pay7_apply _ _ (by rw [level_apply]; exact hx _), level_apply]
  rfl

/-- A block's reciprocals. -/
theorem rowInv_apply (r : Fin 16) (a l : Fin 128) :
    rowInv (xtile x r) (ix2 a l) = powerOfTwo (-(Spec.expo (rowOf x ⟨128 * r.val + a.val, by omega⟩))) := by
  unfold rowInv
  rw [pay8_apply _ _ (by rw [level_apply]; exact hx _), level_apply]
  rfl

/-- A tile's codes. -/
theorem tileCodes_apply (r : Fin 16) (j : Fin 9) (a b : Fin 128) :
    tileCodes (xtile x r) j (ix2 a b)
      = Spec.code (rowOf x ⟨128 * r.val + a.val, by omega⟩) ⟨128 * j.val + b.val, by omega⟩ := by
  pointwise [tileCodes, k0_pay11]
  rw [rowInv_apply x hx, xtile_apply]
  rfl

/-- A tile's codes as the product reads them. -/
theorem tileQuant_apply (r : Fin 16) (j : Fin 9) (a b : Fin 128) :
    tileQuant (xtile x r) j (ix2 a b)
      = Spec.code (rowOf x ⟨128 * r.val + a.val, by omega⟩) ⟨128 * j.val + b.val, by omega⟩ := by
  pointwise [tileQuant, k0_pay12, k0_pay11]
  rw [rowInv_apply x hx, xtile_apply]
  rfl

/-- A block's scales as the scratch keeps them. -/
theorem rowCol_apply (r : Fin 16) (a l : Fin 128) :
    rowCol (xtile x r) (ix2 a l) = Spec.scale (rowOf x ⟨128 * r.val + a.val, by omega⟩) := by
  pointwise [rowCol, k0_pay9]
  exact rowScale_apply x hx r a l

/-- A block's scales along the lanes: of the column of a lane, all but the row of that lane's number are zero. -/
theorem rowDiag_apply (r : Fin 16) (o : Fin 1) (l : Fin 128) :
    rowDiag (xtile x r) (ix2 o l) = Spec.scale (rowOf x ⟨128 * r.val + l.val, by omega⟩) := by
  pointwise [rowDiag, k0_pay10]
  rw [Spec.ofBits_ninf]
  have hs : 0 ≤ Spec.scale (rowOf x ⟨128 * r.val + l.val, by omega⟩) := Spec.scale_nonneg (hx _)
  have hl : ∀ k : Fin 128, IntOp.cmpi .eq (BitVec.ofNat 32 l.val) (BitVec.ofNat 32 k.val) = BitVec.ofBool (decide (k = l)) := by
    intro k
    unfold IntOp.cmpi
    congr 1
    rw [Bool.eq_iff_iff]
    simp only [beq_iff_eq, decide_eq_true_eq]
    constructor
    · intro e
      have := congrArg BitVec.toNat e
      simp only [BitVec.toNat_ofNat] at this
      exact Fin.ext (by omega)
    · rintro rfl; rfl
  simp only [hl]
  apply eq_of_forall_ge_iff
  intro z
  rw [Finset.fold_max_le]
  constructor
  · intro h
    have := h.2 l (Finset.mem_univ _)
    rw [rowScale_apply x hx] at this
    simpa [Scalar.select] using this
  · intro h
    refine ⟨bot_le, fun k _ => ?_⟩
    by_cases hk : k = l
    · subst hk
      rw [rowScale_apply x hx]
      simpa [Scalar.select] using h
    · simpa [Scalar.select, hk] using hs.trans h

/-! ## Whole buffers -/

/-- The codes. -/
theorem codesOf_apply (i : Fin 2048) (k : Fin 1152) : codesOf x (ix2 i k) = Spec.code (rowOf x i) k := by
  refine View.canon_apply_of_pieces (Val := Elt Ideal) (e := .fp8e4m3) (fun y : S2048x1152.Idx => Spec.code (rowOf x (y 0)) (y 1)) _ ?_ _ (cover_tiles _ _)
  intro p hp z
  obtain ⟨⟨r, j⟩, -, rfl⟩ := List.mem_map.mp hp
  obtain ⟨a, b, rfl⟩ : ∃ (a : Fin 128) (b : Fin 128), z = ix2 a b := ⟨z 0, z 1, eq_ix2 z⟩
  refine (tileCodes_apply x hx r j a b).trans ?_
  have e := emb_ix2 (n := 2048) (m := 1152) (p := 128) (q := 128) (inb_tile r j) a b (by omega) (by omega)
  show _ = (fun y : S2048x1152.Idx => Spec.code (rowOf x (y 0)) (y 1)) ((tile r j).emb (ix2 a b))
  rw [e]
  rfl

/-- The codes as the product reads them. -/
theorem quantOf_apply (i : Fin 2048) (k : Fin 1152) : quantOf x (ix2 i k) = Spec.code (rowOf x i) k := by
  refine View.canon_apply_of_pieces (Val := Elt Ideal) (e := .bf16) (fun y : S2048x1152.Idx => Spec.code (rowOf x (y 0)) (y 1)) _ ?_ _ (cover_tiles _ _)
  intro p hp z
  obtain ⟨⟨r, j⟩, -, rfl⟩ := List.mem_map.mp hp
  obtain ⟨a, b, rfl⟩ : ∃ (a : Fin 128) (b : Fin 128), z = ix2 a b := ⟨z 0, z 1, eq_ix2 z⟩
  refine (tileQuant_apply x hx r j a b).trans ?_
  have e := emb_ix2 (n := 2048) (m := 1152) (p := 128) (q := 128) (inb_tile r j) a b (by omega) (by omega)
  show _ = (fun y : S2048x1152.Idx => Spec.code (rowOf x (y 0)) (y 1)) ((tile r j).emb (ix2 a b))
  rw [e]
  rfl

/-- The scales as the product reads them. -/
theorem colsOf_apply (i : Fin 2048) (l : Fin 128) : colsOf x (ix2 i l) = Spec.scale (rowOf x i) := by
  refine View.canon_apply_of_pieces (Val := Elt Ideal) (e := .f32) (fun y : S2048x128.Idx => Spec.scale (rowOf x (y 0))) _ ?_ _ (cover_cols _ _)
  intro p hp z
  obtain ⟨r, -, rfl⟩ := List.mem_map.mp hp
  obtain ⟨a, b, rfl⟩ : ∃ (a : Fin 128) (b : Fin 128), z = ix2 a b := ⟨z 0, z 1, eq_ix2 z⟩
  refine (rowCol_apply x hx r a b).trans ?_
  have e := emb_ix2 (n := 2048) (m := 128) (p := 128) (q := 128) (inb_col r) a b (by omega) (by omega)
  show _ = (fun y : S2048x128.Idx => Spec.scale (rowOf x (y 0))) ((colRect r).emb (ix2 a b))
  rw [e]
  rfl

/-- The row of activations whose scale an index of the array of scales names. -/
def diagRow (y : S8x256.Idx) : Fin 2048 :=
  ⟨256 * (y 0).val + (y 1).val, by
    have h0 : (y 0).val < 8 := (y 0).isLt
    have h1 : (y 1).val < 256 := (y 1).isLt
    omega⟩

omit hx in
/-- The row of activations whose scale a lane of a block's diagonal holds. -/
theorem diagRow_emb (r : Fin 16) (a : Fin 1) (b : Fin 128) :
    (diagRow ((diagRect r).emb (ix2 a b))).val = 128 * r.val + b.val := by
  have e := emb_ix2 (n := 8) (m := 256) (p := 1) (q := 128) (inb_diag r) a b (by have := a.isLt; omega) (by omega)
  have e' : (diagRect r).emb (ix2 a b) = _ := e
  rw [e']
  have ha := a.isLt
  show 256 * (r.val / 2 + a.val) + (128 * (r.val % 2) + b.val) = 128 * r.val + b.val
  omega

/-- The scales, 256 rows of activations to a row. -/
theorem scalesOf_apply (y : S8x256.Idx) : scalesOf x y = Spec.scale (rowOf x (diagRow y)) := by
  refine View.canon_apply_of_pieces (Val := Elt Ideal) (e := .f32)
    (fun y : S8x256.Idx => Spec.scale (rowOf x (diagRow y))) _ ?_ _ (cover_diag _ _)
  intro p hp z
  obtain ⟨r, -, rfl⟩ := List.mem_map.mp hp
  obtain ⟨a, b, rfl⟩ : ∃ (a : Fin 1) (b : Fin 128), z = ix2 a b := ⟨z 0, z 1, eq_ix2 z⟩
  have hd : diagRow ((diagRect r).emb (ix2 a b)) = ⟨128 * r.val + b.val, by omega⟩ := Fin.ext (diagRow_emb r a b)
  have hg : rowDiag (xtile x r) (ix2 a b) = Spec.scale (rowOf x (diagRow ((diagRect r).emb (ix2 a b)))) := by
    rw [hd, rowDiag_apply x hx r a b]
  dsimp only
  exact hg

end rows

/-! ## The weights and the product -/

/-- The group that each lane of a chunk reads. -/
theorem chunkGroup_apply (j : Fin 9) (n : Fin 768) (l : Fin 128) :
    (chunkGroup j (ix2 n l)).toNat = 4 * j.val + l.val / 32 := by
  pointwise [chunkGroup, laneGroup]
  revert j l
  decide +kernel

/-- A chunk's weights. -/
theorem chunkWeights_apply (s : Vec Ideal S768x36 .i8) (w : Vec Ideal S768x128 .fp8e4m3) (j : Fin 9) (n : Fin 768) (l : Fin 128) :
    chunkWeights s w j (ix2 n l) = Spec.weight (w (ix2 n l)) (s (ix2 n ⟨4 * j.val + l.val / 32, by omega⟩)) := by
  have hg := chunkGroup_apply j n l
  have hi : (⟨(chunkGroup j (ix2 n l)).toNat % 128, Nat.mod_lt _ (by norm_num)⟩ : Fin 128) = ⟨4 * j.val + l.val / 32, by omega⟩ :=
    Fin.ext (by show (chunkGroup j (ix2 n l)).toNat % 128 = 4 * j.val + l.val / 32; rw [hg]; omega)
  unfold chunkWeights
  pointwise [k0_pay515]
  rw [hi]
  pointwise [k0_pay513]
  rw [dif_pos (by show 4 * j.val + l.val / 32 < 36; omega)]
  unfold Spec.weight
  rw [← byte_eq]
  rfl

/-- A block's weight at an index. -/
def weightAt (w : Vec Ideal S768x1152 .fp8e4m3) (s : Vec Ideal S768x36 .i8) (y : S768x1152.Idx) : EReal :=
  Spec.weight (w y) (s (ix2 (y 0) ⟨(y 1).val / 32, by
    have h1 : (y 1).val < 1152 := (y 1).isLt
    omega⟩))

/-- A block of the weights. -/
theorem weightsOf_apply (w : Vec Ideal S768x1152 .fp8e4m3) (s : Vec Ideal S768x36 .i8) (y : S768x1152.Idx) :
    weightsOf w s y = weightAt w s y := by
  refine View.canon_apply_of_pieces (Val := Elt Ideal) (e := .bf16) (weightAt w s) _ ?_ _ (cover_chunks _ _)
  intro p hp z
  obtain ⟨j, -, rfl⟩ := List.mem_map.mp hp
  obtain ⟨a, b, rfl⟩ : ∃ (a : Fin 768) (b : Fin 128), z = ix2 a b := ⟨z 0, z 1, eq_ix2 z⟩
  have h0 : 0 + a.val < 768 := by omega
  have h1 : 128 * j.val + b.val < 1152 := by omega
  have e : (chunk j).emb (ix2 a b) = _ := emb_ix2 (n := 768) (m := 1152) (p := 768) (q := 128) (inb_chunk j) a b h0 h1
  have es : groupScales s (ix2 a ⟨4 * j.val + b.val / 32, by omega⟩) = s (ix2 a ⟨4 * j.val + b.val / 32, by omega⟩) := by
    refine (ld_ix2 (n := 768) (m := 36) (p := 768) (q := 36) (e := .i8) s inb_S768x36_S768x36_0_0 a ⟨4 * j.val + b.val / 32, by omega⟩
      (by omega) (by show 0 + (4 * j.val + b.val / 32) < 36; omega)).trans ?_
    congr 2
    · exact Fin.ext (Nat.zero_add _)
    · exact Fin.ext (Nat.zero_add _)
  have ew : View.ld w (chunk j) (ix2 a b) = w ((chunk j).emb (ix2 a b)) := rfl
  show chunkWeights (groupScales s) (View.ld w (chunk j)) j (ix2 a b) = weightAt w s ((chunk j).emb (ix2 a b))
  rw [chunkWeights_apply, es, ew, e]
  unfold weightAt
  congr 3
  · exact Fin.ext (Nat.zero_add _).symm
  · apply Fin.ext
    show 4 * j.val + b.val / 32 = (128 * j.val + b.val) / 32
    omega

/-- A tile of the product at an index. -/
theorem tileProduct_apply (q : Vec Ideal S1024x1152 .bf16) (w : Vec Ideal S256x1152 .bf16) (s : Vec Ideal S1024x128 .f32)
    (a : Fin 1024) (b : Fin 256) :
    tileProduct q w s (ix2 a b) = (∑ k : Fin 1152, q (ix2 a k) * w (ix2 b k))
      * if h : b.val < 128 then s (ix2 a ⟨b.val, h⟩) else s (ix2 a ⟨b.val - 128, by omega⟩) := by
  pointwise [tileProduct, k0_pay535]

/-- A block's product at an index. -/
def productAt (q : Vec Ideal S2048x1152 .bf16) (w : Vec Ideal S768x1152 .bf16) (f : Fin 2048 → EReal) (y : S2048x768.Idx) : EReal :=
  (∑ k : Fin 1152, q (ix2 (y 0) k) * w (ix2 (y 1) k)) * f (y 0)

/-- A block of the product. -/
theorem productOf_apply (q : Vec Ideal S2048x1152 .bf16) (w : Vec Ideal S768x1152 .bf16) (s : Vec Ideal S2048x128 .f32)
    (f : Fin 2048 → EReal) (hs : ∀ i l, s (ix2 i l) = f i) (y : S2048x768.Idx) :
    productOf q w s y = productAt q w f y := by
  refine View.canon_apply_of_pieces (Val := Elt Ideal) (e := .bf16) (productAt q w f) _ ?_ _ (cover_out _ _)
  intro p hp z
  obtain ⟨⟨r, j⟩, -, rfl⟩ := List.mem_map.mp hp
  obtain ⟨a, b, rfl⟩ : ∃ (a : Fin 1024) (b : Fin 256), z = ix2 a b := ⟨z 0, z 1, eq_ix2 z⟩
  have h0 : 1024 * r.val + a.val < 2048 := by omega
  have h1 : 256 * j.val + b.val < 768 := by omega
  have e : (outTile r j).emb (ix2 a b) = _ := emb_ix2 (n := 2048) (m := 768) (p := 1024) (q := 256) (inb_out r j) a b h0 h1
  have eq : ∀ k : Fin 1152, View.ld q (halfRows r) (ix2 a k) = q (ix2 ⟨1024 * r.val + a.val, h0⟩ k) := fun k =>
    (ld_ix2 (n := 2048) (m := 1152) (p := 1024) (q := 1152) (e := .bf16) q (inb_rows r) a k h0 (by omega)).trans
      (congrArg (fun i => q (ix2 _ i)) (Fin.ext (Nat.zero_add _)))
  have ew : ∀ k : Fin 1152, View.ld w (thirdRows j) (ix2 b k) = w (ix2 ⟨256 * j.val + b.val, h1⟩ k) := fun k =>
    (ld_ix2 (n := 768) (m := 1152) (p := 256) (q := 1152) (e := .bf16) w (inb_wrows j) b k h1 (by omega)).trans
      (congrArg (fun i => w (ix2 _ i)) (Fin.ext (Nat.zero_add _)))
  have es : ∀ l : Fin 128, View.ld s (halfScales r) (ix2 a l) = f ⟨1024 * r.val + a.val, h0⟩ := fun l =>
    (ld_ix2 (n := 2048) (m := 128) (p := 1024) (q := 128) (e := .f32) s (inb_srows r) a l h0 (by omega)).trans (hs _ _)
  show tileProduct (View.ld q (halfRows r)) (View.ld w (thirdRows j)) (View.ld s (halfScales r)) (ix2 a b)
    = productAt q w f ((outTile r j).emb (ix2 a b))
  rw [e, tileProduct_apply]
  simp only [eq, ew, es, dite_eq_ite, ite_self]
  rfl

end Cert.KernelIdeal.Gen
-- ==== Proof.Results.lean ====
/- The three results as functions of the three arguments, over the extended reals: the scaled product, the codes and the
   scales. Nothing here mentions a program. -/
module

public import proofs.«01_k».proof.Proof.Spec
public import Idealize.ShloMosaic.Lib.ValueIdx

@[expose] public section

set_option maxRecDepth 16384

noncomputable section

namespace Cert.Spec

open Idealize.ShloMosaic

/-- Row `i` of the activations, their two leading axes taken as one. -/
def xrow (x : (⟨3, ![8, 256, 1152]⟩ : Shape).Idx → EReal) (i : Fin 2048) : Fin 1152 → EReal := fun k =>
  x (ix3 (⟨i.val / 256, by omega⟩ : Fin 8) (⟨i.val % 256, by omega⟩ : Fin 256) k)

/-- The scaled product of the activations and the weights. -/
def y (x : (⟨3, ![8, 256, 1152]⟩ : Shape).Idx → EReal) (w : (⟨2, ![6912, 1152]⟩ : Shape).Idx → EReal)
    (s : (⟨2, ![6912, 36]⟩ : Shape).Idx → BitVec 8) : (⟨2, ![2048, 6912]⟩ : Shape).Idx → EReal := fun j =>
  product (xrow x (j 0)) (fun k => w (ix2 (j 1) k)) (fun g => s (ix2 (j 1) g))

/-- The codes of the activations. -/
def codes (x : (⟨3, ![8, 256, 1152]⟩ : Shape).Idx → EReal) : (⟨2, ![2048, 1152]⟩ : Shape).Idx → EReal := fun j =>
  code (xrow x (j 0)) (j 1)

/-- The scales of the activations' rows. -/
def scales (x : (⟨3, ![8, 256, 1152]⟩ : Shape).Idx → EReal) : (⟨2, ![8, 256]⟩ : Shape).Idx → EReal := fun j =>
  scale fun k => x (ix3 (j 0) (j 1) k)

/-- Every row of the activations is small. -/
def AllSmall (x : (⟨3, ![8, 256, 1152]⟩ : Shape).Idx → EReal) : Prop := ∀ i, Small (xrow x i)

/-- The row of the joint axis is the row of the two. -/
theorem xrow_join (x : (⟨3, ![8, 256, 1152]⟩ : Shape).Idx → EReal) (a : Fin 8) (b : Fin 256) (i : Fin 2048)
    (h : i.val = 256 * a.val + b.val) : xrow x i = fun k => x (ix3 a b k) := by
  funext k
  unfold xrow
  congr 2
  · apply Fin.ext; show i.val / 256 = a.val; omega
  · apply Fin.ext; show i.val % 256 = b.val; omega

end Cert.Spec

end
-- ==== Proof.KernelArrays.lean ====
/- What the kernel's three result arrays hold after the run, as functions of its arguments. -/
module

public import proofs.«01_k».proof.Proof.KernelRun
public import proofs.«01_k».proof.Proof.KernelValues
public import proofs.«01_k».proof.Proof.Results
public import Idealize.ShloMosaic.Lib.Pipeline.ValueKit
public import Idealize.ShloMosaic.Lib.StableHlo.ReadAt

@[expose] public section

set_option maxRecDepth 16384

noncomputable section

namespace Cert.KernelIdeal.Gen

open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ)

/-- The activations as launched. -/
abbrev xArg (c : Dev nD) : Vec Ideal S8x256x1152 .bf16 := m ((c : Thread nD τ).loc main_arg0)
/-- The weights' codes as launched. -/
abbrev wArg (c : Dev nD) : Vec Ideal S6912x1152 .fp8e4m3 := m ((c : Thread nD τ).loc main_arg1)
/-- The weights' scale bytes as launched. -/
abbrev sArg (c : Dev nD) : Vec Ideal S6912x36 .i8 := m ((c : Thread nD τ).loc main_arg2)

/-- The array of activations the pipeline reads: the argument with its two leading axes as one. -/
theorem V_main_v0 (c : Dev nD) : V m c main_v0 = shapeCast (s := S8x256x1152) S2048x1152 (xArg m c) (by decide) := by
  unfold V
  after_reads_simp
  rfl

/-- A row of the activations the pipeline reads is that row of the argument. -/
theorem rowOf_acts (c : Dev nD) (i : Fin 2048) : rowOf (acts m c) i = Spec.xrow (xArg m c) i := by
  funext k
  have e : win0_0.index t₀ = ![0, 0] := by decide +kernel
  have he : ((cfg0.win 0).blk t₀).view.emb (ix2 i k) = (ix2 i k : S2048x1152.Idx) := by
    refine funext fun a => Fin.ext ?_
    fin_cases a <;> blk_simp [e] <;> rfl
  have h : acts m c (ix2 i k) = V m c main_v0 (ix2 i k) := by
    show V m c main_v0 (((cfg0.win 0).blk t₀).view.emb (ix2 i k)) = _
    rw [he]
  show acts m c (ix2 i k) = _
  rw [h, V_main_v0]
  pointwise
  rfl

/-- Row `n` of the block of weights' codes at point `t` is row `768 t + n` of the argument. -/
theorem wblk_apply (c : Dev nD) (t : Fin cfg0.N) (n : Fin 768) (k : Fin 1152) (h : 768 * t.val + n.val < 6912) :
    iblk m c 1 t (ix2 n k) = wArg m c (ix2 ⟨768 * t.val + n.val, h⟩ k) := by
  have e : ∀ t, win0_1.index t = ![t.val, 0] := by decide +kernel
  have he : ((cfg0.win 1).blk t).view.emb (ix2 n k) = (ix2 ⟨768 * t.val + n.val, h⟩ k : S6912x1152.Idx) := by
    refine funext fun a => Fin.ext ?_
    fin_cases a <;> blk_simp [e]
    · show t.val * 768 + n.val = 768 * t.val + n.val; omega
    · rfl
  show V m c main_arg1 (((cfg0.win 1).blk t).view.emb (ix2 n k)) = _
  rw [he, V_main_arg1]

/-- Row `n` of the block of scale bytes at point `t` is row `768 t + n` of the argument. -/
theorem sblk_apply (c : Dev nD) (t : Fin cfg0.N) (n : Fin 768) (g : Fin 36) (h : 768 * t.val + n.val < 6912) :
    iblk m c 2 t (ix2 n g) = sArg m c (ix2 ⟨768 * t.val + n.val, h⟩ g) := by
  have e : ∀ t, win0_2.index t = ![t.val, 0] := by decide +kernel
  have he : ((cfg0.win 2).blk t).view.emb (ix2 n g) = (ix2 ⟨768 * t.val + n.val, h⟩ g : S6912x36.Idx) := by
    refine funext fun a => Fin.ext ?_
    fin_cases a <;> blk_simp [e]
    · show t.val * 768 + n.val = 768 * t.val + n.val; omega
    · rfl
  show V m c main_arg2 (((cfg0.win 2).blk t).view.emb (ix2 n g)) = _
  rw [he, V_main_arg2]

section arrays

variable (c : Dev nD) (hx : Spec.AllSmall (xArg m c))

include hx

/-- Every row the pipeline reads is small. -/
theorem small_acts (i : Fin 2048) : Spec.Small (rowOf (acts m c) i) := by
  rw [rowOf_acts]; exact hx i

/-- The product's array after the run. -/
theorem final_y : (dats m 0 c).arrAt 3 cfg0.N = Spec.y (xArg m c) (wArg m c) (sArg m c) := by
  refine (dats m 0 c).arrAt_eq_of_covers 3 _ (by decide +kernel) fun t hf y => ?_
  have e : ∀ t, win0_3.index t = ![0, t.val] := by decide +kernel
  have ht : t.val < 9 := lt_of_lt_of_eq t.isLt (show cfg0.N = 9 from N_0)
  obtain ⟨a, b, rfl⟩ : ∃ (a : Fin 2048) (b : Fin 768), y = ix2 a b := ⟨y 0, y 1, eq_ix2 y⟩
  have h : 768 * t.val + b.val < 6912 := by omega
  have he : ((cfg0.win 3).blk t).view.emb (ix2 a b) = (ix2 a ⟨768 * t.val + b.val, h⟩ : S2048x6912.Idx) := by
    refine funext fun a => Fin.ext ?_
    fin_cases a <;> blk_simp [e]
    · rfl
    · show t.val * 768 + b.val = 768 * t.val + b.val; omega
  rw [he]
  show (dats m 0 c).after 3 t (ix2 a b) = _
  rw [after0_3, productOf_apply _ _ _ (fun i => Spec.scale (rowOf (acts m c) i)) (colsOf_apply _ (small_acts m c hx))]
  unfold productAt Spec.y Spec.product
  show (∑ k : Fin 1152, quantOf (acts m c) (ix2 a k) * weightsOf _ _ (ix2 b k)) * Spec.scale (rowOf (acts m c) a) = _
  simp only [quantOf_apply _ (small_acts m c hx), weightsOf_apply, rowOf_acts]
  congr 1
  refine Finset.sum_congr rfl fun k _ => ?_
  unfold weightAt
  rw [wblk_apply m c t b k h]
  show _ * Spec.weight _ (iblk m c 2 t (ix2 b _)) = _
  rw [sblk_apply m c t b _ h]
  rfl

/-- The codes' array after the run. -/
theorem final_codes : (dats m 0 c).arrAt 4 cfg0.N = Spec.codes (xArg m c) := by
  refine (dats m 0 c).arrAt_eq_of_covers 4 _ (by decide +kernel) fun t hf y => ?_
  have e : ∀ t, win0_4.index t = ![0, 0] := by decide +kernel
  obtain ⟨a, b, rfl⟩ : ∃ (a : Fin 2048) (b : Fin 1152), y = ix2 a b := ⟨y 0, y 1, eq_ix2 y⟩
  have he : ((cfg0.win 4).blk t).view.emb (ix2 a b) = (ix2 a b : S2048x1152.Idx) := by
    refine funext fun a => Fin.ext ?_
    fin_cases a <;> blk_simp [e] <;> rfl
  rw [he]
  show (dats m 0 c).after 4 t (ix2 a b) = _
  rw [after0_4, codesOf_apply _ (small_acts m c hx), rowOf_acts]
  rfl

/-- The scales' array after the run. -/
theorem final_scales : (dats m 0 c).arrAt 5 cfg0.N = Spec.scales (xArg m c) := by
  refine (dats m 0 c).arrAt_eq_of_covers 5 _ (by decide +kernel) fun t hf y => ?_
  have e : ∀ t, win0_5.index t = ![0, 0] := by decide +kernel
  obtain ⟨a, b, rfl⟩ : ∃ (a : Fin 8) (b : Fin 256), y = ix2 a b := ⟨y 0, y 1, eq_ix2 y⟩
  have he : ((cfg0.win 5).blk t).view.emb (ix2 a b) = (ix2 a b : S8x256.Idx) := by
    refine funext fun a => Fin.ext ?_
    fin_cases a <;> blk_simp [e] <;> rfl
  rw [he]
  show (dats m 0 c).after 5 t (ix2 a b) = _
  rw [after0_5, scalesOf_apply _ (small_acts m c hx), rowOf_acts, Spec.xrow_join _ a b _ rfl]
  rfl

end arrays

end Cert.KernelIdeal.Gen

end
-- ==== Proof.RefHost.lean ====
/- What the reference computes before its one block of products: the exponents, the scales, their inverses and the weights'
   scales, as whole arrays and then element by element. -/
module

public import proofs.«01_k».proof.Proof.Gen.ReferenceIdeal.Value
public import proofs.«01_k».proof.Proof.Results
public import Idealize.ShloMosaic.Lib.Pipeline.ValueKit
public import Idealize.ShloMosaic.Lib.Pointwise
public import Idealize.ShloMosaic.Lib.IndicatorCount
public import Idealize.ShloMosaic.Lib.StableHlo.ReadAt

@[expose] public section

set_option maxRecDepth 16384

noncomputable section

namespace Cert.ReferenceIdeal.Gen

open Idealize.ShloMosaic Idealize.ShloMosaic.TcCoe Idealize.ShloMosaic.Tactic Idealize.SL.Sem Cert.Powers

/-! ## The arrays -/

/-- The powers of two with the given exponents. -/
def powers (s : Shape) (h : S_.BroadcastsInDim s (![] : Fin 0 → Fin s.rank)) (e : IVec s 32) : FVec Ideal s .f32 :=
  select (cmpi .slt e (broadcastInDim s ![] h (constantI S_ 32 4294967170#32)))
    (broadcastInDim s ![] h (id (constant (F := Ideal) S_ .f32 0x00000000#32)))
    (select (cmpi .sgt e (broadcastInDim s ![] h (constantI S_ 32 127#32)))
      (broadcastInDim s ![] h (id (constant (F := Ideal) S_ .f32 0x7F800000#32)))
      (Host.powf (broadcastInDim s ![] h (constant (F := Ideal) S_ .f32 0x40000000#32)) (sitofp .f32 e)))

/-- Read at an index. -/
theorem powers_apply (s : Shape) (h) (e : IVec s 32) (i : s.Idx) : powers s h e i = powerOfTwo (e i) := rfl

/-- The rows' levels. -/
def levels (x : FVec Ideal S8x256x1152 .bf16) : FVec Ideal S8x256 .f32 :=
  mulf (Host.reduce FloatOps.maximumf (Host.absf (extf .f32 x bitsLt_bf16_f32)) (constant (F := Ideal) S_ .f32 0xFF800000#32)
      reducesTo_S8x256x1152_S8x256_d2 h_S_)
    (broadcastInDim S8x256 ![] bcast_S_S8x256 (constant (F := Ideal) S_ .f32 0x3B124925#32))

/-- Which normal powers of two are at most the rows' levels. -/
def below (x : FVec Ideal S8x256x1152 .bf16) : IVec S8x256x254 1 :=
  cmpf .ole
    (broadcastInDim S8x256x254 ![0, 1, 2] bcast_S1x1x254_S8x256x254_0_1_2 (broadcastInDim S1x1x254 ![2] bcast_S254_S1x1x254_2
      (powers S254 bcast_S_S254 (addi (broadcastInDim S254 ![] bcast_S_S254 (constantI S_ 32 4294967170#32)) (iotaInDim S254 32 0)))))
    (broadcastInDim S8x256x254 ![0, 1, 2] bcast_S8x256x1_S8x256x254_0_1_2
      (broadcastInDim S8x256x1 ![0, 1] bcast_S8x256_S8x256x1_0_1 (levels x)))

/-- How many they are. -/
def counts (x : FVec Ideal S8x256x1152 .bf16) : IVec S8x256 32 :=
  Host.reduce IntOp.addi (extui 32 (below x) natLt_1_32) (constantI S_ 32 0#32) reducesTo_S8x256x254_S8x256_d2 h_S_

/-- The rows' exponents. -/
def expos (x : FVec Ideal S8x256x1152 .bf16) : IVec S8x256 32 :=
  select (cmpi .eq (counts x) (broadcastInDim S8x256 ![] bcast_S_S8x256 (constantI S_ 32 0#32)))
    (broadcastInDim S8x256 ![] bcast_S_S8x256 (id (constantI S_ 32 0#32)))
    (subi (counts x) (broadcastInDim S8x256 ![] bcast_S_S8x256 (constantI S_ 32 126#32)))

/-- The rows' scales. -/
def scaleArr (x : FVec Ideal S8x256x1152 .bf16) : FVec Ideal S8x256 .f32 := powers S8x256 bcast_S_S8x256 (expos x)

/-- Their inverses. -/
def invArr (x : FVec Ideal S8x256x1152 .bf16) : FVec Ideal S8x256 .f32 := powers S8x256 bcast_S_S8x256 (negi (expos x))

/-- The weights' scales, one for each weight. -/
def wscaleArr (s : IVec S6912x36 8) : FVec Ideal S6912x1152 .bf16 :=
  shapeCast S6912x1152 (broadcastInDim S6912x36x32 ![0, 1, 2] bcast_S6912x36x1_S6912x36x32_0_1_2
    (broadcastInDim S6912x36x1 ![0, 1] bcast_S6912x36_S6912x36x1_0_1
      (truncf .bf16 (powers S6912x36 bcast_S_S6912x36 (subi (extui 32 s natLt_8_32)
        (broadcastInDim S6912x36 ![] bcast_S_S6912x36 (constantI S_ 32 127#32)))) bitsLt_bf16_f32)))
    shapeCasts_S6912x36x32_S6912x1152

end Cert.ReferenceIdeal.Gen

end
-- ==== Proof.RefReads.lean ====
/- What the reference's buffers hold when its block of products begins: the arrays of `RefHost`, of the arguments. -/
module

public import proofs.«01_k».proof.Proof.RefHost
public import Idealize.ShloMosaic.Lib.Pipeline.ValueKit
public import Idealize.ShloMosaic.Lib.Pointwise
public import Idealize.ShloMosaic.Lib.IndicatorCount
public import Idealize.ShloMosaic.Lib.StableHlo.ReadAt

@[expose] public section

set_option maxRecDepth 16384

noncomputable section

namespace Cert.ReferenceIdeal.Gen

open Idealize.ShloMosaic Idealize.ShloMosaic.TcCoe Idealize.ShloMosaic.Tactic Idealize.SL.Sem Cert.Powers

variable (m : (ℓ : Loc nD τ sig) → Buf (Elt Ideal) ℓ)

/-- The activations as launched. -/
abbrev xArg (c : Dev nD) : Vec Ideal S8x256x1152 .bf16 := m ((c : Thread nD τ).loc main_arg0)
/-- The weights' codes as launched. -/
abbrev wArg (c : Dev nD) : Vec Ideal S6912x1152 .fp8e4m3 := m ((c : Thread nD τ).loc main_arg1)
/-- The weights' scale bytes as launched. -/
abbrev sArg (c : Dev nD) : Vec Ideal S6912x36 .i8 := m ((c : Thread nD τ).loc main_arg2)

/-- The activations, their two leading axes as one. -/
theorem V_main_v64 (c : Dev nD) : V m c main_v64 = shapeCast S2048x1152 (xArg m c) shapeCasts_S8x256x1152_S2048x1152 := by
  unfold V
  dsimp only [List.flatten, List.append]
  after_reads_simp
  rfl

/-- The weights' scales, one for each weight. -/
theorem V_main_v63 (c : Dev nD) : V m c main_v63 = wscaleArr (sArg m c) := by
  unfold V
  dsimp only [List.flatten, List.append]
  after_reads_simp
  rfl

/-- The third result, the scales. -/
theorem V_main_v37 (c : Dev nD) : V m c main_v37 = scaleArr (xArg m c) := by
  unfold V
  dsimp only [List.flatten, List.append]
  after_reads_simp
  dsimp only [StableHlo.TRef.toBuf, StableHlo.TRef.ofBuf, StableHlo.TRef.of, id]
  simp only [cast_eq]
  unfold scaleArr powers expos counts below levels powers
  dsimp only [id]

/-- The scales as a column, which the products read. -/
theorem V_main_v66 (c : Dev nD) : V m c main_v66 = shapeCast S2048x1 (scaleArr (xArg m c)) shapeCasts_S8x256_S2048x1 := by
  unfold V
  dsimp only [List.flatten, List.append]
  after_reads_simp
  dsimp only [StableHlo.TRef.toBuf, StableHlo.TRef.ofBuf, StableHlo.TRef.of, id]
  simp only [cast_eq]
  unfold scaleArr powers expos counts below levels powers
  dsimp only [id]
  rfl

/-- The inverses as a column, which the codes read. -/
theorem V_main_v65 (c : Dev nD) : V m c main_v65 = shapeCast S2048x1 (invArr (xArg m c)) shapeCasts_S8x256_S2048x1 := by
  unfold V
  dsimp only [List.flatten, List.append]
  after_reads_simp
  dsimp only [StableHlo.TRef.toBuf, StableHlo.TRef.ofBuf, StableHlo.TRef.of, id]
  simp only [cast_eq]
  unfold invArr powers expos counts below levels powers
  dsimp only [id]
  rfl

end Cert.ReferenceIdeal.Gen

end
-- ==== Proof.RefValues.lean ====
/- What the reference's scales, inverses and weights' scales are, element by element, in terms of the rows. -/
module

public import proofs.«01_k».proof.Proof.RefHost

@[expose] public section

set_option maxRecDepth 16384

noncomputable section

namespace Cert.ReferenceIdeal.Gen

open Idealize.ShloMosaic Idealize.ShloMosaic.TcCoe Idealize.ShloMosaic.Tactic Idealize.SL.Sem Cert.Powers

/-- A row of the activations. -/
abbrev rowAt (x : FVec Ideal S8x256x1152 .bf16) (a : Fin 8) (b : Fin 256) : Fin 1152 → EReal := fun k => x (ix3 a b k)

/-- The greatest element of a row of any array. -/
theorem rowmax_apply (v : FVec Ideal S8x256x1152 .f32) (i : FVec Ideal S_ .f32) (a : Fin 8) (b : Fin 256) :
    Host.reduce FloatOps.maximumf v i reducesTo_S8x256x1152_S8x256_d2 h_S_ (ix2 a b)
      = (Finset.univ : Finset (Fin 1152)).fold (max : EReal → EReal → EReal) (i (Shape.Idx.first h_S_)) (fun k => v (ix3 a b k)) := by
  pointwise

/-- The magnitude of an element. -/
theorem absf_apply (x : FVec Ideal S8x256x1152 .bf16) (i : S8x256x1152.Idx) :
    Host.absf (extf .f32 x bitsLt_bf16_f32) i = max (x i : EReal) (-(x i : EReal)) := rfl

/-- The constant multiplied by. -/
theorem inverse_apply (i : S8x256.Idx) :
    broadcastInDim S8x256 ![] bcast_S_S8x256 (constant (F := Ideal) S_ .f32 0x3B124925#32) i = Ideal.ofBits .f32 0x3B124925#32 := rfl

/-- The maxima's start. -/
theorem start_apply : constant (F := Ideal) S_ .f32 0xFF800000#32 (Shape.Idx.first h_S_) = (⊥ : EReal) := Spec.ofBits_ninf

/-- A product of arrays, element by element. -/
theorem product_at (u v : FVec Ideal S8x256 .f32) (i : S8x256.Idx) : mulf u v i = (u i * v i : EReal) := rfl

/-- A row's level. -/
theorem levels_apply (x : FVec Ideal S8x256x1152 .bf16) (a : Fin 8) (b : Fin 256) :
    levels x (ix2 a b) = Spec.level (rowAt x a b) := by
  unfold levels Spec.level Spec.mag
  rw [product_at, rowmax_apply, start_apply, inverse_apply, Finset.fold_congr (fun k _ => absf_apply x (ix3 a b k))]

/-- The powers of two counted are the normal ones, the least first. -/
theorem power_apply (k : Fin 254) :
    powers S254 bcast_S_S254 (addi (broadcastInDim S254 ![] bcast_S_S254 (constantI S_ 32 4294967170#32)) (iotaInDim S254 32 0)) (ix1 k)
      = pow2 (k.val + 1) := by
  rw [powers_apply]
  refine powerOfTwo_eq _ (k.val + 1) ?_ (by omega)
  show (4294967170#32 + BitVec.ofNat 32 k.val).toInt = _
  revert k
  decide +kernel

/-- The count is the level's exponent field. -/
theorem counts_apply (x : FVec Ideal S8x256x1152 .bf16) (a : Fin 8) (b : Fin 256) (h : Spec.Small (rowAt x a b)) :
    counts x (ix2 a b) = field (Spec.level (rowAt x a b)) := by
  pointwise [counts]
  rw [IndicatorCount.fold_addi_setWidth_eq_card (fun k => below x (ix3 a b k)) Finset.univ]
  have e : ∀ k : Fin 254, below x (ix3 a b k) = 1#1 ↔ pow2 (k.val + 1) ≤ Spec.level (rowAt x a b) := by
    intro k
    pointwise [below]
    rw [power_apply, levels_apply]
    by_cases hk : pow2 (k.val + 1) ≤ Spec.level (rowAt x a b) <;> simp [hk]
  rw [Finset.filter_congr fun k _ => e k, count_eq (lt_of_lt_of_le h le_top)]
  exact (BitVec.ofNat_toNat 32 _).trans (BitVec.setWidth_eq _)

/-- A row's exponent. -/
theorem expos_apply (x : FVec Ideal S8x256x1152 .bf16) (a : Fin 8) (b : Fin 256) (h : Spec.Small (rowAt x a b)) :
    expos x (ix2 a b) = Spec.expo (rowAt x a b) := by
  show Scalar.select (IntOp.cmpi .eq (counts x (ix2 a b)) 0#32) 0#32 (IntOp.subi (counts x (ix2 a b)) 126#32) = _
  rw [counts_apply x a b h]
  rfl

/-- A row's scale. -/
theorem scaleArr_apply (x : FVec Ideal S8x256x1152 .bf16) (a : Fin 8) (b : Fin 256) (h : Spec.Small (rowAt x a b)) :
    scaleArr x (ix2 a b) = Spec.scale (rowAt x a b) := by
  unfold scaleArr
  rw [powers_apply, expos_apply x a b h]
  rfl

/-- A row's inverse scale. -/
theorem invArr_apply (x : FVec Ideal S8x256x1152 .bf16) (a : Fin 8) (b : Fin 256) (h : Spec.Small (rowAt x a b)) :
    invArr x (ix2 a b) = powerOfTwo (-(Spec.expo (rowAt x a b))) := by
  unfold invArr
  rw [powers_apply]
  show powerOfTwo (-(expos x (ix2 a b))) = _
  rw [expos_apply x a b h]

/-- A weight's scale: its group's. -/
theorem wscaleArr_apply (s : IVec S6912x36 8) (n : Fin 6912) (k : Fin 1152) :
    wscaleArr s (ix2 n k) = powerOfTwo (IntOp.subi ((s (ix2 n ⟨k.val / 32, by omega⟩)).setWidth 32) 127#32) := by
  pointwise [wscaleArr]
  rw [powers_apply]
  rfl

end Cert.ReferenceIdeal.Gen

end
-- ==== Proof.RefBlock.lean ====
/- What the reference's one block computes from what it reads: its codes and its scaled product at an index. -/
module

public import proofs.«01_k».proof.Proof.Gen.ReferenceIdeal.Value
public import proofs.«01_k».proof.Proof.Results
public import Idealize.ShloMosaic.Lib.Pipeline.ValueKit
public import Idealize.ShloMosaic.Lib.Pointwise

@[expose] public section

set_option maxRecDepth 16384

noncomputable section

namespace Cert.ReferenceIdeal.Gen

open Idealize.ShloMosaic Idealize.ShloMosaic.TcCoe Idealize.ShloMosaic.Tactic Idealize.SL.Sem

/-- A code: the element times its row's inverse scale, clipped. -/
theorem pay1_apply (x : Vec Ideal S2048x1152 .bf16) (r : Vec Ideal S2048x1 .f32) (i : Fin 2048) (k : Fin 1152) :
    k0_pay1 x r (ix2 i k)
      = min (Ideal.ofBits .f32 0x43E00000#32) (max (Ideal.ofBits .f32 0xC3E00000#32) (x (ix2 i k) * r (ix2 i 0))) := by
  pointwise [k0_pay1]

/-- An element of the scaled product: the codes' row times the weights' row, times the row's scale. -/
theorem pay2_apply (x : Vec Ideal S2048x1152 .bf16) (r : Vec Ideal S2048x1 .f32) (w : Vec Ideal S6912x1152 .fp8e4m3)
    (u : Vec Ideal S6912x1152 .bf16) (f : Vec Ideal S2048x1 .f32) (i : Fin 2048) (n : Fin 6912) :
    k0_pay2 x r w u f (ix2 i n)
      = (∑ k : Fin 1152, k0_pay1 x r (ix2 i k) * (w (ix2 n k) * u (ix2 n k))) * f (ix2 i 0) := by
  pointwise [k0_pay2]

theorem zeros : (![0, 0] : Fin 2 → Nat) = fun _ => 0 := funext fun a => by fin_cases a <;> rfl

/-- The block's codes. -/
theorem out6_eq (x0 : Vec Ideal S2048x1152 .bf16) (x1 x2 : Vec Ideal S2048x1 .f32) (x3 : Vec Ideal S6912x1152 .fp8e4m3)
    (x4 : Vec Ideal S6912x1152 .bf16) : out0_6 x0 x1 x2 x3 x4 = k0_pay1 x0 x1 := by
  unfold out0_6
  rw [View.canon_unit_zero zeros, View.ld_unit_zero zeros, View.ld_unit_zero zeros]

/-- The block's scaled product. -/
theorem out5_eq (x0 : Vec Ideal S2048x1152 .bf16) (x1 x2 : Vec Ideal S2048x1 .f32) (x3 : Vec Ideal S6912x1152 .fp8e4m3)
    (x4 : Vec Ideal S6912x1152 .bf16) : out0_5 x0 x1 x2 x3 x4 = k0_pay2 x0 x1 x3 x4 x2 := by
  unfold out0_5
  rw [View.canon_unit_zero zeros, View.ld_unit_zero zeros, View.ld_unit_zero zeros, View.ld_unit_zero zeros,
    View.ld_unit_zero zeros, View.ld_unit_zero zeros]

/-! ## The blocks read are whole arrays -/

variable (m : (ℓ : Loc nD τ sig) → Buf (Elt Ideal) ℓ) (c : Dev nD) (t : Fin cfg0.N)

theorem iblk0_apply (i : Fin 2048) (k : Fin 1152) : iblk m c 0 t (ix2 i k) = V m c main_v64 (ix2 i k) := by
  have e : ∀ t, win0_0.index t = ![0, 0] := by decide +kernel
  have he : ((cfg0.win 0).blk t).view.emb (ix2 i k) = (ix2 i k : S2048x1152.Idx) := by
    refine funext fun a => Fin.ext ?_
    fin_cases a <;> blk_simp [e] <;> rfl
  unfold iblk
  generalize V m c = A
  show A main_v64 (((cfg0.win 0).blk t).view.emb (ix2 i k)) = _
  rw [he]

theorem iblk1_apply (i : Fin 2048) (k : Fin 1) : iblk m c 1 t (ix2 i k) = V m c main_v65 (ix2 i k) := by
  have e : ∀ t, win0_1.index t = ![0, 0] := by decide +kernel
  have he : ((cfg0.win 1).blk t).view.emb (ix2 i k) = (ix2 i k : S2048x1.Idx) := by
    refine funext fun a => Fin.ext ?_
    fin_cases a <;> blk_simp [e] <;> rfl
  unfold iblk
  generalize V m c = A
  show A main_v65 (((cfg0.win 1).blk t).view.emb (ix2 i k)) = _
  rw [he]

theorem iblk2_apply (i : Fin 2048) (k : Fin 1) : iblk m c 2 t (ix2 i k) = V m c main_v66 (ix2 i k) := by
  have e : ∀ t, win0_2.index t = ![0, 0] := by decide +kernel
  have he : ((cfg0.win 2).blk t).view.emb (ix2 i k) = (ix2 i k : S2048x1.Idx) := by
    refine funext fun a => Fin.ext ?_
    fin_cases a <;> blk_simp [e] <;> rfl
  unfold iblk
  generalize V m c = A
  show A main_v66 (((cfg0.win 2).blk t).view.emb (ix2 i k)) = _
  rw [he]

theorem iblk3_apply (n : Fin 6912) (k : Fin 1152) : iblk m c 3 t (ix2 n k) = V m c main_arg1 (ix2 n k) := by
  have e : ∀ t, win0_3.index t = ![0, 0] := by decide +kernel
  have he : ((cfg0.win 3).blk t).view.emb (ix2 n k) = (ix2 n k : S6912x1152.Idx) := by
    refine funext fun a => Fin.ext ?_
    fin_cases a <;> blk_simp [e] <;> rfl
  unfold iblk
  generalize V m c = A
  show A main_arg1 (((cfg0.win 3).blk t).view.emb (ix2 n k)) = _
  rw [he]

theorem iblk4_apply (n : Fin 6912) (k : Fin 1152) : iblk m c 4 t (ix2 n k) = V m c main_v63 (ix2 n k) := by
  have e : ∀ t, win0_4.index t = ![0, 0] := by decide +kernel
  have he : ((cfg0.win 4).blk t).view.emb (ix2 n k) = (ix2 n k : S6912x1152.Idx) := by
    refine funext fun a => Fin.ext ?_
    fin_cases a <;> blk_simp [e] <;> rfl
  unfold iblk
  generalize V m c = A
  show A main_v63 (((cfg0.win 4).blk t).view.emb (ix2 n k)) = _
  rw [he]

end Cert.ReferenceIdeal.Gen

end
-- ==== Proof.RefArrays.lean ====
/- What the reference's three results are after the run, as functions of its arguments. -/
module

public import proofs.«01_k».proof.Proof.RefReads
public import proofs.«01_k».proof.Proof.RefValues
public import proofs.«01_k».proof.Proof.RefBlock

@[expose] public section

set_option maxRecDepth 16384

noncomputable section

namespace Cert.ReferenceIdeal.Gen

open Idealize.ShloMosaic Idealize.ShloMosaic.TcCoe Idealize.ShloMosaic.Tactic Idealize.SL.Sem Cert.Powers

variable (m : (ℓ : Loc nD τ sig) → Buf (Elt Ideal) ℓ) (c : Dev nD)

/-- A column's row of the joint axis is the array's element of the two. -/
theorem column_apply (x : FVec Ideal S8x256 .f32) (i : Fin 2048) :
    shapeCast S2048x1 x shapeCasts_S8x256_S2048x1 (ix2 i 0) = x (ix2 ⟨i.val / 256, by omega⟩ ⟨i.val % 256, by omega⟩) := by
  pointwise

/-- A row of the activations the block reads is that row of the argument. -/
theorem acts_apply (t : Fin cfg0.N) (i : Fin 2048) (k : Fin 1152) :
    iblk m c 0 t (ix2 i k) = Spec.xrow (xArg m c) i k := by
  rw [iblk0_apply, V_main_v64]
  pointwise
  rfl

/-- The weight's scale the block reads. -/
theorem wscale_apply (t : Fin cfg0.N) (n : Fin 6912) (k : Fin 1152) :
    iblk m c 4 t (ix2 n k) = powerOfTwo (IntOp.subi ((sArg m c (ix2 n ⟨k.val / 32, by omega⟩)).setWidth 32) 127#32) := by
  rw [iblk4_apply, V_main_v63, wscaleArr_apply]

section arrays

variable (hx : Spec.AllSmall (xArg m c))

include hx

/-- The row's inverse scale the block reads. -/
theorem inv_apply (t : Fin cfg0.N) (i : Fin 2048) :
    iblk m c 1 t (ix2 i 0) = powerOfTwo (-(Spec.expo (Spec.xrow (xArg m c) i))) := by
  rw [iblk1_apply, V_main_v65, column_apply, invArr_apply _ _ _ (hx i)]
  rfl

/-- The row's scale the block reads. -/
theorem scale_apply (t : Fin cfg0.N) (i : Fin 2048) :
    iblk m c 2 t (ix2 i 0) = Spec.scale (Spec.xrow (xArg m c) i) := by
  rw [iblk2_apply, V_main_v66, column_apply, scaleArr_apply _ _ _ (hx i)]
  rfl

/-- The block's codes. -/
theorem code_apply (t : Fin cfg0.N) (i : Fin 2048) (k : Fin 1152) :
    k0_pay1 (iblk m c 0 t) (iblk m c 1 t) (ix2 i k) = Spec.code (Spec.xrow (xArg m c) i) k := by
  refine (pay1_apply _ _ i k).trans ?_
  rw [acts_apply, inv_apply m c hx]
  rfl

omit hx in
/-- The weight's code the block reads. -/
theorem weight_apply (t : Fin cfg0.N) (n : Fin 6912) (k : Fin 1152) : iblk m c 3 t (ix2 n k) = wArg m c (ix2 n k) := by
  rw [iblk3_apply, V_main_arg1]

/-- The block's product. -/
theorem product_apply (t : Fin cfg0.N) (i : Fin 2048) (n : Fin 6912) :
    k0_pay2 (iblk m c 0 t) (iblk m c 1 t) (iblk m c 3 t) (iblk m c 4 t) (iblk m c 2 t) (ix2 i n)
      = Spec.y (xArg m c) (wArg m c) (sArg m c) (ix2 i n) := by
  refine (pay2_apply _ _ _ _ _ i n).trans ?_
  show _ = (∑ k : Fin 1152, Spec.code (Spec.xrow (xArg m c) i) k * Spec.weight (wArg m c (ix2 n k))
    (sArg m c (ix2 n ⟨k.val / 32, by omega⟩))) * Spec.scale (Spec.xrow (xArg m c) i)
  refine congrArg₂ (fun p q : EReal => p * q) (Finset.sum_congr rfl fun k _ => ?_) (scale_apply m c hx t i)
  exact congrArg₂ (fun p q : EReal => p * q) (code_apply m c hx t i k)
    (congrArg₂ (fun p q : EReal => p * q) (weight_apply m c t n k) (wscale_apply m c t n k))

omit hx in
/-- The one block of the product is the whole array. -/
theorem emb5 (t : Fin cfg0.N) (a : Fin 2048) (b : Fin 6912) :
    ((cfg0.win 5).blk t).view.emb (ix2 a b) = (ix2 a b : S2048x6912.Idx) := by
  have e : ∀ t, win0_5.index t = ![0, 0] := by decide +kernel
  refine funext fun a => Fin.ext ?_
  fin_cases a <;> blk_simp [e] <;> rfl

/-- What the block leaves of the product. -/
theorem after5 (t : Fin cfg0.N) (a : Fin 2048) (b : Fin 6912) :
    (dats m 0 c).after 5 t (ix2 a b) = Spec.y (xArg m c) (wArg m c) (sArg m c) (ix2 a b) := by
  rw [after0_5, out5_eq]
  exact product_apply m c hx t a b

/-- The product's array after the run. -/
theorem final_y : (dats m 0 c).arrAt 5 cfg0.N = Spec.y (xArg m c) (wArg m c) (sArg m c) := by
  refine (dats m 0 c).arrAt_eq_of_covers 5 _ (by decide +kernel) fun t hf y => ?_
  obtain ⟨a, b, rfl⟩ : ∃ (a : Fin 2048) (b : Fin 6912), y = ix2 a b := ⟨y 0, y 1, eq_ix2 y⟩
  rw [emb5]
  exact after5 m c hx t a b

/-- The codes' array after the run. -/
theorem final_codes : (dats m 0 c).arrAt 6 cfg0.N = Spec.codes (xArg m c) := by
  refine (dats m 0 c).arrAt_eq_of_covers 6 _ (by decide +kernel) fun t hf y => ?_
  have e : ∀ t, win0_6.index t = ![0, 0] := by decide +kernel
  obtain ⟨a, b, rfl⟩ : ∃ (a : Fin 2048) (b : Fin 1152), y = ix2 a b := ⟨y 0, y 1, eq_ix2 y⟩
  have he : ((cfg0.win 6).blk t).view.emb (ix2 a b) = (ix2 a b : S2048x1152.Idx) := by
    refine funext fun a => Fin.ext ?_
    fin_cases a <;> blk_simp [e] <;> rfl
  rw [he]
  show (dats m 0 c).after 6 t (ix2 a b) = _
  rw [after0_6, out6_eq, code_apply m c hx]
  rfl

/-- The scales' array after the run. -/
theorem final_scales : V m c main_v37 = Spec.scales (xArg m c) := by
  rw [V_main_v37]
  funext y
  obtain ⟨a, b, rfl⟩ : ∃ (a : Fin 8) (b : Fin 256), y = ix2 a b := ⟨y 0, y 1, eq_ix2 y⟩
  have h : Spec.Small (rowAt (xArg m c) a b) := by
    have := hx ⟨256 * a.val + b.val, by omega⟩
    rwa [Spec.xrow_join _ a b _ rfl] at this
  rw [scaleArr_apply _ _ _ h]
  rfl

end arrays

end Cert.ReferenceIdeal.Gen

end
-- ==== Proof.Finite.lean ====
/- What the precondition says: no activation's magnitude exceeds the greatest of its format, so every row is small. -/
module

public import proofs.«01_k».proof.Proof.Gen.Pre_finite
public import proofs.«01_k».proof.Proof.Results
public import Idealize.ShloMosaic.Lib.ReduceAll
public import Idealize.ShloMosaic.Lib.Pointwise

@[expose] public section

set_option maxRecDepth 16384

noncomputable section

namespace Cert.Pre_finite.Gen

open Idealize.ShloMosaic Cert.Pre_finite

/-- The precondition, element by element. -/
theorem le_of_finite (x : FVec Ideal S8x256x1152 .bf16) (w : FVec Ideal S6912x1152 .fp8e4m3) (s : IVec S6912x36 8)
    (h : fn (F := Ideal) x w s = fun _ => 1#1) (i : S8x256x1152.Idx) :
    max (x i) (-(x i)) ≤ Ideal.ofBits .f32 0x7F7F0000#32 := by
  dsimp only [fn] at h
  haveI : Subsingleton S_.Idx := ⟨fun a b => funext fun k => k.elim0⟩
  have e := Host.reduce_andi_all _ _ _ _ _ (congrFun h (Shape.Idx.first h_S_)) i
  have e' : BitVec.ofBool (decide (max (x i) (-(x i)) ≤ Ideal.ofBits .f32 0x7F7F0000#32)) = 1#1 := e
  by_contra hc
  rw [decide_eq_false hc] at e'
  exact absurd e' (by decide)

/-- Under the precondition every row is small. -/
theorem small_of_finite (x : FVec Ideal S8x256x1152 .bf16) (w : FVec Ideal S6912x1152 .fp8e4m3) (s : IVec S6912x36 8)
    (h : fn (F := Ideal) x w s = fun _ => 1#1) : Spec.AllSmall x := fun i =>
  Spec.small_of_le _ fun k => le_of_finite x w s h _

end Cert.Pre_finite.Gen

end
-- ==== Proof.Equation.lean ====
/- The kernel and the reference leave the same three results. -/
module

public import proofs.«01_k».proof.Defs
public import proofs.«01_k».proof.Proof.KernelArrays
public import proofs.«01_k».proof.Proof.RefArrays
public import proofs.«01_k».proof.Proof.Finite

@[expose] public section

set_option maxRecDepth 16384

noncomputable section

open Idealize.ShloMosaic Idealize.ShloMosaic.TcCoe Idealize.SL.Sem

namespace Cert.KernelIdeal.Gen

/-- The kernel's run: its results are the product, the codes and the scales of its arguments, which stay as launched. -/
theorem run_results (m : (ℓ : Loc nD τ sig) → Buf (Elt Ideal) ℓ) (ρ : Dev nD → PrngReg)
    (hx : ∀ c, Spec.AllSmall (xArg m c)) :
    θ_run defs (onTc (τ := τ) (main (F := Ideal))) ⟨m, fun _ => 0, ρ⟩ fun r => ∀ c : Dev nD,
      r.2.mem ((c.tc : Thread nD τ).loc main_v1_0) = Spec.y (xArg m c) (wArg m c) (sArg m c)
      ∧ r.2.mem ((c.tc : Thread nD τ).loc main_v1_1) = Spec.codes (xArg m c)
      ∧ r.2.mem ((c.tc : Thread nD τ).loc main_v1_2) = Spec.scales (xArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1.out_eq c 3).trans (final_y m c (hx c)), (h.1.out_eq c 4).trans (final_codes m c (hx c)),
      (h.1.out_eq c 5).trans (final_scales m c (hx c)), h.2.1 c⟩)
    (θ_run_and (run_main m ρ) (frame m ρ))

end Cert.KernelIdeal.Gen

namespace Cert.ReferenceIdeal.Gen

/-- The reference's run, likewise. -/
theorem run_results (m : (ℓ : Loc nD τ sig) → Buf (Elt Ideal) ℓ) (ρ : Dev nD → PrngReg)
    (hx : ∀ c, Spec.AllSmall (xArg m c)) :
    θ_run defs (onTc (τ := τ) (main (F := Ideal))) ⟨m, fun _ => 0, ρ⟩ fun r => ∀ c : Dev nD,
      r.2.mem ((c.tc : Thread nD τ).loc main_v67_0) = Spec.y (xArg m c) (wArg m c) (sArg m c)
      ∧ r.2.mem ((c.tc : Thread nD τ).loc main_v67_1) = Spec.codes (xArg m c)
      ∧ r.2.mem ((c.tc : Thread nD τ).loc main_v37) = Spec.scales (xArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h.1.out_eq c 5).trans (final_y m c (hx c)), (h.1.out_eq c 6).trans (final_codes m c (hx c)),
      (h.1.rest_eq c main_v37 (Pipeline.mem_restRefs_of main_v37 (by decide) (by decide))).trans (final_scales m c (hx c)), h.2.1 c⟩)
    (θ_run_and (run_main m ρ) (frame m ρ))

end Cert.ReferenceIdeal.Gen

namespace Cert.Proof

/-- Over the extended reals the kernel computes what the reference does. -/
theorem algebraic : Cert.algebraic_KernelIdeal_ReferenceIdeal_pre_finite := by
  intro m g m' g' hpre hargs
  have hx : ∀ c, Spec.AllSmall (Cert.KernelIdeal.Gen.xArg m c) := fun c => Cert.Pre_finite.Gen.small_of_finite _ _ _ (hpre c)
  have e0 : ∀ c, Cert.ReferenceIdeal.Gen.xArg m' c = Cert.KernelIdeal.Gen.xArg m c := fun c => (hargs c).1
  have e1 : ∀ c, Cert.ReferenceIdeal.Gen.wArg m' c = Cert.KernelIdeal.Gen.wArg m c := fun c => (hargs c).2.1
  have e2 : ∀ c, Cert.ReferenceIdeal.Gen.sArg m' c = Cert.KernelIdeal.Gen.sArg m c := fun c => (hargs c).2.2
  have hx' : ∀ c, Spec.AllSmall (Cert.ReferenceIdeal.Gen.xArg m' c) := fun c => by rw [e0 c]; exact hx c
  refine ⟨fun c => Spec.y (Cert.KernelIdeal.Gen.xArg m c) (Cert.KernelIdeal.Gen.wArg m c) (Cert.KernelIdeal.Gen.sArg m c),
    fun c => Spec.codes (Cert.KernelIdeal.Gen.xArg m c), fun c => Spec.scales (Cert.KernelIdeal.Gen.xArg m c),
    Cert.KernelIdeal.Gen.run_results m g hx, ?_⟩
  refine (θ_run _ _ _).mono (fun r h c => ?_) (Cert.ReferenceIdeal.Gen.run_results m' g' hx')
  have := h c
  rw [e0 c, e1 c, e2 c] at this
  exact this

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_finite
public import proofs.«01_k».proof.Proof.Same
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The five claims: the frames, the ideal kernel's being the kernel, and the equation of kernel and reference. -/
theorem claim : Cert.Claim := ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, trivial, algebraic⟩

end Cert.Proof

end
